-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_ids_in_range [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_ids_in_range : Cert.Pre_ids_in_range.Facts),
    quiescent_Kernel (hKernel := hKernel) (hPre_ids_in_range := hPre_ids_in_range)
    ∧ quiescent_KernelIdeal (hKernelIdeal := hKernelIdeal) (hPre_ids_in_range := hPre_ids_in_range)
    ∧ quiescent_ReferenceIdeal (hReferenceIdeal := hReferenceIdeal)
    ∧ quiescent_ReferenceIdeal_pre_ids_in_range (hReferenceIdeal := hReferenceIdeal) (hPre_ids_in_range := hPre_ids_in_range)
    ∧ preserves_Kernel_KernelIdeal
    ∧ algebraic_KernelIdeal_ReferenceIdeal (hKernelIdeal := hKernelIdeal) (hReferenceIdeal := hReferenceIdeal) (hPre_ids_in_range := hPre_ids_in_range)
-- ==== Pre_ids_in_range.lean ====
abbrev S1024x1024 : Shape := ⟨2, ![1024, 1024]⟩
abbrev S1024x64 : Shape := ⟨2, ![1024, 64]⟩
abbrev S1024 : Shape := ⟨1, ![1024]⟩
abbrev S_ : Shape := ⟨0, ![]⟩

class Facts : Prop where
  bcast_S_S1024x64 : S_.BroadcastsInDim S1024x64 (![] : Fin 0 → Fin S1024x64.rank)
  reducesTo_S1024x64_S_d0_1 : S1024x64.ReducesTo [0, 1] S_
  h_S_ : 0 < S_.numel

variable [Facts]

def fn {F : FTy → Type} [FloatOps F] (main_arg0 : FVec F S1024x1024 .f32) (main_arg1 : IVec S1024x64 32) (main_arg2 : IVec S1024 32) : IVec S_ 1 :=
  let main_c : IVec S_ 32 := constantI S_ 32 0#32
  let main_v0 : IVec S1024x64 32 := broadcastInDim S1024x64 ![] bcast_S_S1024x64 main_c
  let main_v1 : IVec S1024x64 1 := cmpi .sge main_arg1 main_v0
  let main_c_0 : IVec S_ 32 := constantI S_ 32 1024#32
  let main_v2 : IVec S1024x64 32 := broadcastInDim S1024x64 ![] bcast_S_S1024x64 main_c_0
  let main_v3 : IVec S1024x64 1 := cmpi .slt main_arg1 main_v2
  let main_v4 : IVec S1024x64 1 := andi main_v1 main_v3
  let main_c_1 : IVec S_ 1 := constantI S_ 1 1#1
  let main_v5 : IVec S_ 1 := (fun x v => Host.reduce IntOp.andi x v reducesTo_S1024x64_S_d0_1 h_S_) main_v4 main_c_1
  main_v5
-- ==== Kernel.lean ====
abbrev S1024x1024 : Shape := ⟨2, ![1024, 1024]⟩
abbrev S1024x64 : Shape := ⟨2, ![1024, 64]⟩
abbrev S1024 : Shape := ⟨1, ![1024]⟩
abbrev S32x1024 : Shape := ⟨2, ![32, 1024]⟩
abbrev S32x64 : Shape := ⟨2, ![32, 64]⟩
abbrev S32 : Shape := ⟨1, ![32]⟩
abbrev S_ : Shape := ⟨0, ![]⟩
abbrev S16 : Shape := ⟨1, ![16]⟩
abbrev S1x16 : Shape := ⟨2, ![1, 16]⟩
abbrev S256x1024 : Shape := ⟨2, ![256, 1024]⟩

abbrev nBuf : Table → Nat
  | .hbm => 6
  | .local .tc .vmem => 5
  | .local .scVector .vmem => 3
  | _ => 0

abbrev bufTy : (tb : Table) → Fin (nBuf tb) → BufTy
  | .hbm, ⟨0, _⟩ => ⟨S1024x1024, .f32⟩
  | .hbm, ⟨1, _⟩ => ⟨S1024x64, .i32⟩
  | .hbm, ⟨2, _⟩ => ⟨S1024, .i32⟩
  | .hbm, ⟨3, _⟩ => ⟨S1024x1024, .f32⟩
  | .hbm, ⟨4, _⟩ => ⟨S1024x1024, .bf16⟩
  | .hbm, ⟨5, _⟩ => ⟨S1024x1024, .f32⟩
  | .local .tc .vmem, ⟨0, _⟩ => ⟨S256x1024, .f32⟩
  | .local .tc .vmem, ⟨1, _⟩ => ⟨S256x1024, .f32⟩
  | .local .tc .vmem, ⟨2, _⟩ => ⟨S1024x1024, .bf16⟩
  | .local .tc .vmem, ⟨3, _⟩ => ⟨S256x1024, .f32⟩
  | .local .tc .vmem, ⟨4, _⟩ => ⟨S256x1024, .f32⟩
  | .local .scVector .vmem, ⟨0, _⟩ => ⟨S32x1024, .f32⟩
  | .local .scVector .vmem, ⟨1, _⟩ => ⟨S32x64, .i32⟩
  | .local .scVector .vmem, ⟨2, _⟩ => ⟨S32, .i32⟩
  | _, _ => ⟨S1024x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_arg1_scv : Ref sig .scVector := ⟨.hbm, 1, rfl⟩
abbrev main_arg2_scv : Ref sig .scVector := ⟨.hbm, 2, rfl⟩
abbrev main_v0_scv : Ref sig .scVector := ⟨.hbm, 3, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg2_1 : Ref sig .tc := ⟨.vmem, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_14_r0 : BitVec 32 := 0#32
  ![v2.toNat, 0]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
@[reducible] def k0_t1_loop : Scf.Loop 32 :=
  let c0_i32_1 : BitVec 32 := 0#32
  let c32_i32_2 : BitVec 32 := 32#32
  let v6 : BitVec 32 := Scalar.addi c0_i32_1 c32_i32_2
  let c1_i32 : BitVec 32 := 1#32
  ⟨c0_i32_1, v6, c1_i32⟩
def k0_off3 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v15 : Index := Scalar.indexCast arg8
  let c0_14 : Index := 0#32
  ![v15.toNat, 0]
def k0_off4 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v17 : Index := Scalar.indexCast arg8
  let c16_15 : Index := 16#32
  ![v17.toNat, 16]
def k0_off5 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v19 : Index := Scalar.indexCast arg8
  let c32 : Index := 32#32
  ![v19.toNat, 32]
def k0_off6 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v21 : Index := Scalar.indexCast arg8
  let c48 : Index := 48#32
  ![v21.toNat, 48]
def k0_off7 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v23 : Index := Scalar.indexCast arg8
  let c64 : Index := 64#32
  ![v23.toNat, 64]
def k0_off8 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v25 : Index := Scalar.indexCast arg8
  let c80 : Index := 80#32
  ![v25.toNat, 80]
def k0_off9 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v27 : Index := Scalar.indexCast arg8
  let c96 : Index := 96#32
  ![v27.toNat, 96]
def k0_off10 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v29 : Index := Scalar.indexCast arg8
  let c112 : Index := 112#32
  ![v29.toNat, 112]
def k0_off11 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v31 : Index := Scalar.indexCast arg8
  let c128 : Index := 128#32
  ![v31.toNat, 128]
def k0_off12 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v33 : Index := Scalar.indexCast arg8
  let c144 : Index := 144#32
  ![v33.toNat, 144]
def k0_off13 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v35 : Index := Scalar.indexCast arg8
  let c160 : Index := 160#32
  ![v35.toNat, 160]
def k0_off14 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v37 : Index := Scalar.indexCast arg8
  let c176 : Index := 176#32
  ![v37.toNat, 176]
def k0_off15 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v39 : Index := Scalar.indexCast arg8
  let c192 : Index := 192#32
  ![v39.toNat, 192]
def k0_off16 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v41 : Index := Scalar.indexCast arg8
  let c208 : Index := 208#32
  ![v41.toNat, 208]
def k0_off17 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v43 : Index := Scalar.indexCast arg8
  let c224 : Index := 224#32
  ![v43.toNat, 224]
def k0_off18 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v45 : Index := Scalar.indexCast arg8
  let c240 : Index := 240#32
  ![v45.toNat, 240]
def k0_off19 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v47 : Index := Scalar.indexCast arg8
  let c256 : Index := 256#32
  ![v47.toNat, 256]
def k0_off20 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v49 : Index := Scalar.indexCast arg8
  let c272 : Index := 272#32
  ![v49.toNat, 272]
def k0_off21 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v51 : Index := Scalar.indexCast arg8
  let c288 : Index := 288#32
  ![v51.toNat, 288]
def k0_off22 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v53 : Index := Scalar.indexCast arg8
  let c304 : Index := 304#32
  ![v53.toNat, 304]
def k0_off23 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v55 : Index := Scalar.indexCast arg8
  let c320 : Index := 320#32
  ![v55.toNat, 320]
def k0_off24 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v57 : Index := Scalar.indexCast arg8
  let c336 : Index := 336#32
  ![v57.toNat, 336]
def k0_off25 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v59 : Index := Scalar.indexCast arg8
  let c352 : Index := 352#32
  ![v59.toNat, 352]
def k0_off26 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v61 : Index := Scalar.indexCast arg8
  let c368 : Index := 368#32
  ![v61.toNat, 368]
def k0_off27 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v63 : Index := Scalar.indexCast arg8
  let c384 : Index := 384#32
  ![v63.toNat, 384]
def k0_off28 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v65 : Index := Scalar.indexCast arg8
  let c400 : Index := 400#32
  ![v65.toNat, 400]
def k0_off29 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v67 : Index := Scalar.indexCast arg8
  let c416 : Index := 416#32
  ![v67.toNat, 416]
def k0_off30 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v69 : Index := Scalar.indexCast arg8
  let c432 : Index := 432#32
  ![v69.toNat, 432]
def k0_off31 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v71 : Index := Scalar.indexCast arg8
  let c448 : Index := 448#32
  ![v71.toNat, 448]
def k0_off32 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v73 : Index := Scalar.indexCast arg8
  let c464 : Index := 464#32
  ![v73.toNat, 464]
def k0_off33 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v75 : Index := Scalar.indexCast arg8
  let c480 : Index := 480#32
  ![v75.toNat, 480]
def k0_off34 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v77 : Index := Scalar.indexCast arg8
  let c496 : Index := 496#32
  ![v77.toNat, 496]
def k0_off35 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v79 : Index := Scalar.indexCast arg8
  let c512 : Index := 512#32
  ![v79.toNat, 512]
def k0_off36 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v81 : Index := Scalar.indexCast arg8
  let c528 : Index := 528#32
  ![v81.toNat, 528]
def k0_off37 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v83 : Index := Scalar.indexCast arg8
  let c544 : Index := 544#32
  ![v83.toNat, 544]
def k0_off38 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v85 : Index := Scalar.indexCast arg8
  let c560 : Index := 560#32
  ![v85.toNat, 560]
def k0_off39 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v87 : Index := Scalar.indexCast arg8
  let c576 : Index := 576#32
  ![v87.toNat, 576]
def k0_off40 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v89 : Index := Scalar.indexCast arg8
  let c592 : Index := 592#32
  ![v89.toNat, 592]
def k0_off41 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v91 : Index := Scalar.indexCast arg8
  let c608 : Index := 608#32
  ![v91.toNat, 608]
def k0_off42 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v93 : Index := Scalar.indexCast arg8
  let c624 : Index := 624#32
  ![v93.toNat, 624]
def k0_off43 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v95 : Index := Scalar.indexCast arg8
  let c640 : Index := 640#32
  ![v95.toNat, 640]
def k0_off44 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v97 : Index := Scalar.indexCast arg8
  let c656 : Index := 656#32
  ![v97.toNat, 656]
def k0_off45 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v99 : Index := Scalar.indexCast arg8
  let c672 : Index := 672#32
  ![v99.toNat, 672]
def k0_off46 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v101 : Index := Scalar.indexCast arg8
  let c688 : Index := 688#32
  ![v101.toNat, 688]
def k0_off47 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v103 : Index := Scalar.indexCast arg8
  let c704 : Index := 704#32
  ![v103.toNat, 704]
def k0_off48 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v105 : Index := Scalar.indexCast arg8
  let c720 : Index := 720#32
  ![v105.toNat, 720]
def k0_off49 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v107 : Index := Scalar.indexCast arg8
  let c736 : Index := 736#32
  ![v107.toNat, 736]
def k0_off50 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v109 : Index := Scalar.indexCast arg8
  let c752 : Index := 752#32
  ![v109.toNat, 752]
def k0_off51 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v111 : Index := Scalar.indexCast arg8
  let c768 : Index := 768#32
  ![v111.toNat, 768]
def k0_off52 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v113 : Index := Scalar.indexCast arg8
  let c784 : Index := 784#32
  ![v113.toNat, 784]
def k0_off53 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v115 : Index := Scalar.indexCast arg8
  let c800 : Index := 800#32
  ![v115.toNat, 800]
def k0_off54 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v117 : Index := Scalar.indexCast arg8
  let c816 : Index := 816#32
  ![v117.toNat, 816]
def k0_off55 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v119 : Index := Scalar.indexCast arg8
  let c832 : Index := 832#32
  ![v119.toNat, 832]
def k0_off56 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v121 : Index := Scalar.indexCast arg8
  let c848 : Index := 848#32
  ![v121.toNat, 848]
def k0_off57 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v123 : Index := Scalar.indexCast arg8
  let c864 : Index := 864#32
  ![v123.toNat, 864]
def k0_off58 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v125 : Index := Scalar.indexCast arg8
  let c880 : Index := 880#32
  ![v125.toNat, 880]
def k0_off59 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v127 : Index := Scalar.indexCast arg8
  let c896 : Index := 896#32
  ![v127.toNat, 896]
def k0_off60 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v129 : Index := Scalar.indexCast arg8
  let c912 : Index := 912#32
  ![v129.toNat, 912]
def k0_off61 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v131 : Index := Scalar.indexCast arg8
  let c928 : Index := 928#32
  ![v131.toNat, 928]
def k0_off62 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v133 : Index := Scalar.indexCast arg8
  let c944 : Index := 944#32
  ![v133.toNat, 944]
def k0_off63 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v135 : Index := Scalar.indexCast arg8
  let c960 : Index := 960#32
  ![v135.toNat, 960]
def k0_off64 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v137 : Index := Scalar.indexCast arg8
  let c976 : Index := 976#32
  ![v137.toNat, 976]
def k0_off65 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v139 : Index := Scalar.indexCast arg8
  let c992 : Index := 992#32
  ![v139.toNat, 992]
def k0_off66 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v141 : Index := Scalar.indexCast arg8
  let c1008 : Index := 1008#32
  ![v141.toNat, 1008]
@[reducible] def k0_t2_loop : Scf.Loop 32 :=
  let c0_i32_6 : BitVec 32 := 0#32
  let c64_i32 : BitVec 32 := 64#32
  let v10 : BitVec 32 := Scalar.addi c0_i32_6 c64_i32
  let c1_i32_7 : BitVec 32 := 1#32
  ⟨c0_i32_6, v10, c1_i32_7⟩

def k0_chk1 (v9 : IVec S16 32) (v15 : IVec S16 32) : Prop :=
  (∀ a x, ((![v9, v15] : Fin 2 → IVec S16 32) a x).toNat < S32x64.size a)
theorem k0_idx1_inb : ∀ (v9 : IVec S16 32) (v15 : IVec S16 32) (k0_hw1 : k0_chk1 v9 v15), ∀ a x, ((![v9, v15] : Fin 2 → IVec S16 32) a x).toNat < S32x64.size a := fun v9 v15 k0_hw1 => k0_hw1

def k0_chk2 (v9 : IVec S16 32) (v16 : IVec S16 32) : Prop :=
  (∀ a x, ((![v9, v16] : Fin 2 → IVec S16 32) a x).toNat < S32x1024.size a)
theorem k0_idx2_inb : ∀ (v9 : IVec S16 32) (v16 : IVec S16 32) (k0_hw2 : k0_chk2 v9 v16), ∀ a x, ((![v9, v16] : Fin 2 → IVec S16 32) a x).toNat < S32x1024.size a := fun v9 v16 k0_hw2 => k0_hw2
@[reducible] def k0_t3_loop : Scf.Loop 32 :=
  let c0_i32_10 : BitVec 32 := 0#32
  let c64_i32_11 : BitVec 32 := 64#32
  let v14 : BitVec 32 := Scalar.addi c0_i32_10 c64_i32_11
  let c1_i32_12 : BitVec 32 := 1#32
  ⟨c0_i32_10, v14, c1_i32_12⟩

def k0_chk3 (v13 : IVec S16 32) (v15 : IVec S16 32) : Prop :=
  (∀ a x, ((![v13, v15] : Fin 2 → IVec S16 32) a x).toNat < S32x64.size a)
theorem k0_idx3_inb : ∀ (v13 : IVec S16 32) (v15 : IVec S16 32) (k0_hw3 : k0_chk3 v13 v15), ∀ a x, ((![v13, v15] : Fin 2 → IVec S16 32) a x).toNat < S32x64.size a := fun v13 v15 k0_hw3 => k0_hw3

def k0_chk4 (v13 : IVec S16 32) (v16 : IVec S16 32) : Prop :=
  (∀ a x, ((![v13, v16] : Fin 2 → IVec S16 32) a x).toNat < S32x1024.size a)
theorem k0_idx4_inb : ∀ (v13 : IVec S16 32) (v16 : IVec S16 32) (k0_hw4 : k0_chk4 v13 v16), ∀ a x, ((![v13, v16] : Fin 2 → IVec S16 32) a x).toNat < S32x1024.size a := fun v13 v16 k0_hw4 => k0_hw4
def k0_off67 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_14_r2 : BitVec 32 := 0#32
  ![v2.toNat, 0]
abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x1024 : Shape := ⟨2, ![1024, 1024]⟩
abbrev S1024x64 : Shape := ⟨2, ![1024, 64]⟩
abbrev S1024 : Shape := ⟨1, ![1024]⟩
abbrev S_ : Shape := ⟨0, ![]⟩
abbrev S1024x64x1 : Shape := ⟨3, ![1024, 64, 1]⟩
abbrev S1 : Shape := ⟨1, ![1]⟩
abbrev S1x1x1 : Shape := ⟨3, ![1, 1, 1]⟩
abbrev S1024x64x1024 : Shape := ⟨3, ![1024, 64, 1024]⟩
abbrev S64 : Shape := ⟨1, ![64]⟩
abbrev S1x64 : Shape := ⟨2, ![1, 64]⟩
abbrev S1024x1 : Shape := ⟨2, ![1024, 1]⟩

abbrev nBuf : Space → Nat
  | .hbm => 39
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x64, .i32⟩
  | .hbm, ⟨2, _⟩ => ⟨S1024, .i32⟩
  | .hbm, ⟨3, _⟩ => ⟨S1024x1024, .f32⟩
  | .hbm, ⟨4, _⟩ => ⟨S_, .i32⟩
  | .hbm, ⟨5, _⟩ => ⟨S1024x64, .i32⟩
  | .hbm, ⟨6, _⟩ => ⟨S1024x64, .i1⟩
  | .hbm, ⟨7, _⟩ => ⟨S_, .i32⟩
  | .hbm, ⟨8, _⟩ => ⟨S1024x64, .i32⟩
  | .hbm, ⟨9, _⟩ => ⟨S1024x64, .i32⟩
  | .hbm, ⟨10, _⟩ => ⟨S1024x64, .i32⟩
  | .hbm, ⟨11, _⟩ => ⟨S1024x64x1, .i32⟩
  | .hbm, ⟨12, _⟩ => ⟨S1, .i32⟩
  | .hbm, ⟨13, _⟩ => ⟨S_, .i32⟩
  | .hbm, ⟨14, _⟩ => ⟨S1024x64x1, .i32⟩
  | .hbm, ⟨15, _⟩ => ⟨S1024x64x1, .i1⟩
  | .hbm, ⟨16, _⟩ => ⟨S1x1x1, .i32⟩
  | .hbm, ⟨17, _⟩ => ⟨S1024x64x1, .i32⟩
  | .hbm, ⟨18, _⟩ => ⟨S1024x64x1, .i1⟩
  | .hbm, ⟨19, _⟩ => ⟨S1024x64x1, .i1⟩
  | .hbm, ⟨20, _⟩ => ⟨S_, .i1⟩
  | .hbm, ⟨21, _⟩ => ⟨S1024x64, .i1⟩
  | .hbm, ⟨22, _⟩ => ⟨S1024x64x1024, .f32⟩
  | .hbm, ⟨23, _⟩ => ⟨S1024x64x1024, .i1⟩
  | .hbm, ⟨24, _⟩ => ⟨S_, .f32⟩
  | .hbm, ⟨25, _⟩ => ⟨S1024x64x1024, .f32⟩
  | .hbm, ⟨26, _⟩ => ⟨S1024x64x1024, .f32⟩
  | .hbm, ⟨27, _⟩ => ⟨S64, .i32⟩
  | .hbm, ⟨28, _⟩ => ⟨S1x64, .i32⟩
  | .hbm, ⟨29, _⟩ => ⟨S1024x1, .i32⟩
  | .hbm, ⟨30, _⟩ => ⟨S1024x64, .i32⟩
  | .hbm, ⟨31, _⟩ => ⟨S1024x64, .i32⟩
  | .hbm, ⟨32, _⟩ => ⟨S1024x64, .i1⟩
  | .hbm, ⟨33, _⟩ => ⟨S1024x64, .f32⟩
  | .hbm, ⟨34, _⟩ => ⟨S1024x64x1, .f32⟩
  | .hbm, ⟨35, _⟩ => ⟨S1024x64x1024, .f32⟩
  | .hbm, ⟨36, _⟩ => ⟨S1024x64x1024, .f32⟩
  | .hbm, ⟨37, _⟩ => ⟨S_, .f32⟩
  | .hbm, ⟨38, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_cst : Ref sig .tc := ⟨.hbm, 37, rfl⟩
abbrev main_v12 : Ref sig .tc := ⟨.hbm, 38, rfl⟩

abbrev nD : Nat := 1
abbrev τ : Topo := Topo.v7x

variable {F : FTy → Type} [FloatOps F]
-- ==== Proof.Counts.lean ====
/-
  What one SparseCore tile computes, as plain functions: for a row of spike indices and a spike count, how often each
  column was named among the first `j` indices (`tally`, counted by the store path's add, one per spike); a tile's
  32 × 1024 block of such tallies while the two groups of sixteen rows are under way (`block`); and that one scatter of
  ones, its sixteen lanes on sixteen different rows, takes the block one spike further (`scatter_step`).
-/
module

public import proofs.«01_k».proof.Defs
public import proofs.«01_k».proof.Proof.Gen.KernelIdeal
public import proofs.«01_k».proof.Proof.Gen.KernelIdeal.Skeleton
public import Idealize.ShloMosaic.Lib.ValueIdx

@[expose] public section

noncomputable section

namespace Cert.Proof.Spikes

open Cert.KernelIdeal Cert.KernelIdeal.Gen
open Idealize.ShloMosaic
open Idealize.ShloMosaic.ValueIdx (ix1 ix2)

variable {F : FTy → Type} [FloatOps F]

/-- The tally's start and its step. -/
abbrev nought : F .f32 := Scalar.ofBits .f32 0x00000000#32
abbrev one : F .f32 := Scalar.ofBits .f32 0x3F800000#32

/-- Column `d`'s tally after the first `j` indices of a row: one more for each index that is `d` and whose position is
    below the row's spike count `n` (compared as the kernel compares them, signed). -/
def tally (row : Fin 64 → BitVec 32) (n : BitVec 32) (d : ℕ) : ℕ → F .f32
  | 0 => nought
  | j + 1 =>
    if (BitVec.ofNat 32 j).slt n = true ∧ (row (Fin.ofNat 64 j)).toNat = d
    then FloatOps.idxAddf (tally row n d j) one else tally row n d j

/-- A tile's block of tallies: the sixteen rows of group `g` after `t g` indices. -/
def block (ids : S32x64.Idx → BitVec 32) (ns : S32.Idx → BitVec 32) (t : ℕ → ℕ) : S32x1024.Idx → F .f32 :=
  fun j => tally (fun k => ids (ix2 (j 0) k)) (ns (ix1 (j 0))) (j 1).val (t ((j 0).val / 16))

/-- The whole array of tallies, all 64 indices of every row counted. -/
def counts (ids : S1024x64.Idx → BitVec 32) (ns : S1024.Idx → BitVec 32) : S1024x1024.Idx → F .f32 :=
  fun j => tally (fun k => ids (ix2 (j 0) k)) (ns (ix1 (j 0))) (j 1).val 64

/-- A fold of updates at places that do not meet: place `j` sees only the one update that names it. -/
theorem foldl_update {α β ι : Type} [DecidableEq ι] (step : (ι → β) → α → ι → β) (at_ : α → ι) (on : α → Prop) [DecidablePred on] (up : β → α → β)
    (hstep : ∀ g k j, step g k j = if on k ∧ j = at_ k then up (g j) k else g j)
    (l : List α) (hl : l.Nodup) (hinj : ∀ a ∈ l, ∀ b ∈ l, at_ a = at_ b → a = b) (f : ι → β) (j : ι) :
    (∀ k ∈ l, on k → at_ k = j → l.foldl step f j = up (f j) k) ∧ ((∀ k ∈ l, on k → at_ k ≠ j) → l.foldl step f j = f j) := by
  induction l generalizing f with
  | nil => exact ⟨fun k hk => absurd hk (List.not_mem_nil), fun _ => rfl⟩
  | cons a l ih =>
    have ih' := ih (List.nodup_cons.mp hl).2 (fun x hx y hy => hinj x (List.mem_cons_of_mem _ hx) y (List.mem_cons_of_mem _ hy)) (step f a)
    refine ⟨fun k hk hon hat => ?_, fun hno => ?_⟩
    · rw [List.foldl_cons]
      rcases List.mem_cons.mp hk with rfl | hk
      · rw [ih'.2 fun b hb _ hbat => (List.nodup_cons.mp hl).1
            (hinj b (List.mem_cons_of_mem _ hb) k List.mem_cons_self (hbat.trans hat.symm) ▸ hb), hstep, if_pos ⟨hon, hat.symm⟩]
      · rw [ih'.1 k hk hon hat, hstep, if_neg]
        rintro ⟨_, haj⟩
        exact (List.nodup_cons.mp hl).1 (hinj k (List.mem_cons_of_mem _ hk) a List.mem_cons_self (hat.trans haj) ▸ hk)
    · rw [List.foldl_cons, ih'.2 fun k hk => hno k (List.mem_cons_of_mem _ hk), hstep, if_neg]
      rintro ⟨hon, haj⟩
      exact hno a List.mem_cons_self hon haj.symm

/-- A scatter of adds whose lanes name places that do not meet, element by element. -/
theorem storeIdx_apply {s : Shape} {d : Fin 1 → Nat} (f : Vec F s .f32) (idxs : Fin s.rank → IVec ⟨1, d⟩ 32) (v : Vec F ⟨1, d⟩ .f32) (mask : IVec ⟨1, d⟩ 1)
    (h : ∀ a x, (idxs a x).toNat < s.size a) (hinj : ∀ x y, idxAt idxs h x = idxAt idxs h y → x = y) (j : s.Idx) :
    (∀ x, mask x = 1 → idxAt idxs h x = j → storeIdx f idxs v mask true h j = FloatOps.idxAddf (f j) (v x))
      ∧ ((∀ x, mask x = 1 → idxAt idxs h x ≠ j) → storeIdx f idxs v mask true h j = f j) := by
  have hlane : ∀ x : (⟨1, d⟩ : Shape).Idx, ∃ k : Fin (d 0), (Shape.ofLane k : (⟨1, d⟩ : Shape).Idx) = x := fun x =>
    ⟨x 0, funext fun a => by obtain rfl : a = 0 := Subsingleton.elim _ _; rfl⟩
  let step : (s.Idx → Elt F .f32) → Fin (d 0) → s.Idx → Elt F .f32 := fun g k =>
    if mask (Shape.ofLane k) = 1 then fun j =>
      if (∀ a, (j a).val = (idxAt idxs h (Shape.ofLane k) a).val) then
        (if true then Elt.idxAdd .f32 (g (idxAt idxs h (Shape.ofLane k))) (v (Shape.ofLane k)) else v (Shape.ofLane k)) else g j else g
  have key := foldl_update (ι := s.Idx) (β := Elt F .f32) (step := step)
    (at_ := fun k : Fin (d 0) => idxAt idxs h (Shape.ofLane k)) (on := fun k => mask (Shape.ofLane k) = 1)
    (up := fun b k => FloatOps.idxAddf b (v (Shape.ofLane k)))
    (by
      intro g k j
      dsimp only [step]
      by_cases hm : mask (Shape.ofLane k) = 1
      · rw [if_pos hm]
        by_cases hj : j = idxAt idxs h (Shape.ofLane k)
        · rw [if_pos (show ∀ a, (j a).val = (idxAt idxs h (Shape.ofLane k) a).val from fun a => by rw [hj]), if_pos rfl,
            if_pos (And.intro hm hj), hj]
          rfl
        · rw [if_neg fun hh => hj (funext fun a => Fin.ext (hh a)), if_neg fun hh => hj hh.2]
      · rw [if_neg hm, if_neg fun hh => hm hh.1])
    (List.finRange (d 0)) (List.nodup_finRange _) (fun a _ b _ hab => congrFun (hinj _ _ hab) 0) f j
  have e : storeIdx f idxs v mask true h = List.foldl step f (List.finRange (d 0)) := by
    unfold storeIdx
    refine congrArg (fun st => List.foldl st f (List.finRange (d 0))) (funext fun g => funext fun k => ?_)
    dsimp only [step]
    by_cases hm : mask (Shape.ofLane k) = 1
    · rw [if_pos hm, if_pos hm]
      funext j
      by_cases hh : ∀ a, (j a).val = (idxAt idxs h (Shape.ofLane k) a).val
      · rw [if_pos hh, if_pos hh]
      · rw [if_neg hh, if_neg hh]
    · rw [if_neg hm, if_neg hm]
  rw [e]
  refine ⟨fun x hm hx => ?_, fun hno => key.2 fun k _ => hno _⟩
  obtain ⟨k, rfl⟩ := hlane x
  exact key.1 k (List.mem_finRange k) hm hx

/-- The row numbers of a group: lane `x` is row `16 g + x`. -/
def lanes (g : ℕ) : IVec S16 32 := fun x => BitVec.ofNat 32 ((x 0).val + 16 * g)

theorem lanes_toNat (g : ℕ) (hg : g < 2) (x : S16.Idx) : (lanes g x).toNat = (x 0).val + 16 * g := by
  have hx : (x 0).val < 16 := (x 0).isLt
  unfold lanes; rw [BitVec.toNat_ofNat]; exact Nat.mod_eq_of_lt (by omega)

theorem lanes_inj (g : ℕ) (hg : g < 2) (x y : S16.Idx) (h : lanes g x = lanes g y) : x = y := by
  have := congrArg BitVec.toNat h
  rw [lanes_toNat g hg, lanes_toNat g hg] at this
  funext a; obtain rfl : a = 0 := Subsingleton.elim _ _
  exact Fin.ext (by omega)

theorem pay3_eq : k0_pay3 = lanes 0 := by
  funext x
  simp only [k0_pay3, addi, iota, broadcast, lanes, List.foldl]
  simp [IntOp.addi, BitVec.ofNat_add]
theorem pay5_eq : k0_pay5 = lanes 1 := by
  funext x
  simp only [k0_pay5, addi, iota, broadcast, lanes, List.foldl]
  simp [IntOp.addi, BitVec.ofNat_add]

/-- The row lane `x` of group `g` works on. -/
def rowOf (g : ℕ) (hg : g < 2) (x : S16.Idx) : Fin 32 := ⟨(x 0).val + 16 * g, by have : (x 0).val < 16 := (x 0).isLt; omega⟩

/-- One scatter of ones at index position `k` of group `g`'s rows takes the block one index further in that group. -/
theorem scatter_step (ids : S32x64.Idx → BitVec 32) (ns : S32.Idx → BitVec 32) (t t' : ℕ → ℕ) (g : ℕ) (hg : g < 2) (k : ℕ) (hk : k < 64)
    (htg : t g = k) (htg' : t' g = k + 1) (hother : ∀ g', g' ≠ g → t' g' = t g')
    (col : IVec S16 32) (mask : IVec S16 1)
    (hcol : ∀ x, col x = ids (ix2 (rowOf g hg x) ⟨k, hk⟩))
    (hmask : ∀ x, mask x = 1 ↔ (BitVec.ofNat 32 k).slt (ns (ix1 (rowOf g hg x))) = true)
    (h : ∀ a x, ((![lanes g, col] : Fin 2 → IVec S16 32) a x).toNat < S32x1024.size a) :
    storeIdx (s := S32x1024) (F := F) (e := .f32) (block ids ns t) ![lanes g, col] k0_pay2 mask true h = block ids ns t' := by
  have hfin : (Fin.ofNat 64 k : Fin 64) = ⟨k, hk⟩ := Fin.ext (Nat.mod_eq_of_lt hk)
  have hat0 : ∀ x, (idxAt (s := S32x1024) ![lanes g, col] h x 0).val = (x 0).val + 16 * g := fun x => lanes_toNat g hg x
  have hat1 : ∀ x, (idxAt (s := S32x1024) ![lanes g, col] h x 1).val = (ids (ix2 (rowOf g hg x) ⟨k, hk⟩)).toNat := fun x => by
    rw [← hcol x]; rfl
  have hinj : ∀ x y, idxAt (s := S32x1024) ![lanes g, col] h x = idxAt ![lanes g, col] h y → x = y := fun x y hxy => by
    have h0 := congrArg (fun i : S32x1024.Idx => (i 0).val) hxy
    simp only [hat0] at h0
    funext a; obtain rfl : a = 0 := Subsingleton.elim _ _
    exact Fin.ext (by omega)
  funext j
  have key := storeIdx_apply (F := F) (s := S32x1024) (block ids ns t) ![lanes g, col] k0_pay2 mask h hinj j
  by_cases hrow : (j 0).val / 16 = g
  · -- the row is of this group: its own lane decides
    have hj0 : (j 0).val < 32 := (j 0).isLt
    let x : S16.Idx := ix1 (⟨(j 0).val - 16 * g, by omega⟩ : Fin 16)
    have hx : rowOf g hg x = j 0 := Fin.ext (show (j 0).val - 16 * g + 16 * g = (j 0).val by omega)
    have hx1 : ∀ y, idxAt (s := S32x1024) ![lanes g, col] h y = j → y = x := fun y hy => by
      have h0 := hat0 y
      rw [hy] at h0
      funext a; obtain rfl : a = 0 := Subsingleton.elim _ _
      exact Fin.ext (show (y 0).val = (j 0).val - 16 * g by omega)
    have hlhs : block (F := F) ids ns t j = tally (fun k => ids (ix2 (j 0) k)) (ns (ix1 (j 0))) (j 1).val k := by
      unfold block; rw [hrow, htg]
    have hrhs : block (F := F) ids ns t' j = tally (fun k => ids (ix2 (j 0) k)) (ns (ix1 (j 0))) (j 1).val (k + 1) := by
      unfold block; rw [hrow, htg']
    rw [hrhs, tally, hfin, ← hlhs]
    by_cases hon : (BitVec.ofNat 32 k).slt (ns (ix1 (j 0))) = true ∧ (ids (ix2 (j 0) ⟨k, hk⟩)).toNat = (j 1).val
    · rw [if_pos hon]
      refine (key.1 x ((hmask x).2 (by rw [hx]; exact hon.1)) (funext fun a => Fin.ext ?_)).trans rfl
      match a with
      | 0 => rw [hat0]; exact congrArg Fin.val hx
      | 1 => rw [hat1, hx]; exact hon.2
    · rw [if_neg hon]
      refine key.2 fun y hm hy => hon ?_
      obtain rfl := hx1 y hy
      refine ⟨?_, ?_⟩
      · have := (hmask x).1 hm; rwa [hx] at this
      · have := hat1 x; rw [hy, hx] at this; exact this.symm
  · -- the row is of the other group: no lane names it
    rw [key.2 fun y _ hy => hrow ?_]
    · unfold block; rw [hother _ hrow]
    · have := hat0 y; rw [hy] at this
      have hy16 : (y 0).val < 16 := (y 0).isLt
      omega

end Cert.Proof.Spikes

end
-- ==== Proof.Base.lean ====
/-
  The set-up of the run: the program's configuration as the launch theorem sees it, the resource algebra (the
  handshakes' rounds, the TensorCore pipeline's rounds, the transfers' counters), and the arrays by name.
-/
module

public import proofs.«01_k».proof.Defs
public import proofs.«01_k».proof.Proof.Counts
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Value
public import Idealize.ShloMosaic.Lib.Tactic
public import proofs.«01_k».proof.Proof.Gen.KernelIdeal
public import proofs.«01_k».proof.Proof.Gen.KernelIdeal.Skeleton

@[expose] public section

noncomputable section

namespace Cert.Proof.Spikes

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

omit [FloatOps F] in
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The TensorCore pipeline's rounds library: the left half of the right factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
omit [FloatOps F] in
instance EP_landsIn : (EP : Emb UP 𝕄).LandsIn (upEmb : UEmb _ 𝕄) := by unfold EP; infer_instance

/-! ## The arrays -/

/-- The weights, the spike indices, the spike counts (the arguments), the tallies, the narrowed weights, the result. -/
abbrev wLoc (d : Dev nD) : Loc nD τ sig := (SparseCore.T d).loc main_arg0
abbrev iLoc (d : Dev nD) : Loc nD τ sig := (SparseCore.T d).loc main_arg1
abbrev nLoc (d : Dev nD) : Loc nD τ sig := (SparseCore.T d).loc main_arg2
abbrev aLoc (d : Dev nD) : Loc nD τ sig := (SparseCore.T d).loc main_v0
abbrev bLoc (d : Dev nD) : Loc nD τ sig := (SparseCore.T d).loc main_v1
abbrev rLoc (d : Dev nD) : Loc nD τ sig := (SparseCore.T d).loc main_v2

abbrev cV (L : grid0.Coords) : Fin τ.nSC := (L 0).castLE hcore0
abbrev jV (L : grid0.Coords) : Fin τ.nSub := (L 1).castLE hsub0
/-- The thread of tile `L`. -/
abbrev tile (d : Dev nD) (L : grid0.Coords) : Thread nD τ := V d (cV L) (jV L)

end Cert.Proof.Spikes

end
-- ==== Proof.Zero.lean ====
/-
  The tile's zeroing loop: each trip stores sixty-four vectors of zeros along one row of the tile's block. The block's
  contents while row `t` is under way are `zeroed f t c`: zero in the rows before `t` and in row `t` before column `c`,
  `f` elsewhere; one store moves `c` on by sixteen, and a load moves nothing.
-/
module

public import proofs.«01_k».proof.Proof.Base

@[expose] public section

noncomputable section

namespace Cert.Proof.Spikes

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2)

variable {F : FTy → Type} [FloatOps F]

local notation "𝕄" => MT nD τ sig (HIx 1) (Elt F) ℕ UU ℕ

/-- Zero in the rows before `t` and in row `t` before column `c`; `f` elsewhere. -/
def zeroed (f : S32x1024.Idx → F .f32) (t c : ℕ) : S32x1024.Idx → F .f32 :=
  fun j => if (j 0).val < t ∨ ((j 0).val = t ∧ (j 1).val < c) then nought else f j

theorem zeroed_next (f : S32x1024.Idx → F .f32) (t : ℕ) : zeroed f t 1024 = zeroed f (t + 1) 0 := by
  funext j
  have h1 : (j 1).val < 1024 := (j 1).isLt
  unfold zeroed
  congr 1
  exact propext (by omega)

theorem zeroed_store (f : S32x1024.Idx → F .f32) (t c : ℕ) (off : Fin 2 → ℕ) (hoff : off = ![t, c])
    (inb : ∀ a, off a + S1x16.size a ≤ S32x1024.size a) :
    ((Memref.whole cc0_scratch0).access (Rect.unit (s := S32x1024) off S1x16.size inb) : View sig .scVector _ _ _).write (Elt F) (zeroed f t c)
        (shapeCast S1x16 k0_pay1 shapeCasts_S16_S1x16) Finset.univ
      = zeroed f t (c + 16) := by
  subst hoff
  refine (View.write_whole_slice_unit (Val := Elt F) cc0_scratch0 _ _ inb (zeroed f t c) _).trans ?_
  funext j
  unfold updateSlice zeroed
  have hone : (S1x16.size 0 : ℕ) = 1 := rfl
  have hsix : (S1x16.size 1 : ℕ) = 16 := rfl
  by_cases hin : (j 0).val = t ∧ c ≤ (j 1).val ∧ (j 1).val < c + 16
  · rw [dif_pos (by
      intro a
      match a with
      | 0 => exact ⟨le_of_eq hin.1.symm, by show (j 0).val < t + 1; omega⟩
      | 1 => exact ⟨hin.2.1, hin.2.2⟩), if_pos (by omega)]
    rfl
  · rw [dif_neg fun hh => hin ⟨by have h0 := hh 0; have : t ≤ (j 0).val ∧ (j 0).val < t + 1 := h0; omega, hh 1⟩]
    congr 1
    exact propext (by omega)

section

variable (d : Dev nD) (L : grid0.Coords)

abbrev wpt {α : Type} (p : Prog (TpuEff nD τ sig (Elt F) Λ₀ (.scVector (cV L) (jV L))) α) (Q : α → sProp 𝕄) : sProp 𝕄 :=
  wp frame (wpE (defs₀ (F := F)) 𝒱₀ (tile d L) none) Set.univ p Q

/-- The tile's block at contents `f`. -/
abbrev blk (f : S32x1024.Idx → F .f32) : sProp 𝕄 := (tile d L).loc cc0_scratch0 ↦{fullShare} f

/-- One operation and then the rest, what holds between them independent of what the operation returned. -/
theorem step {α β : Type} {p : Prog (TpuEff nD τ sig (Elt F) Λ₀ (.scVector (cV L) (jV L))) β}
    {k : β → Prog (TpuEff nD τ sig (Elt F) Λ₀ (.scVector (cV L) (jV L))) α} {P R : sProp 𝕄} {Q : α → sProp 𝕄}
    (h : P ⊢ wpt d L p fun _ => R) (hk : ∀ x, R ⊢ wpt d L (k x) Q) : P ⊢ wpt d L (p >>= k) Q := by
  show P ⊢ wp _ _ _ _ _
  rw [wp_bind]
  exact h.trans (wp_mono frame _ _ hk)

theorem zero_store (f : S32x1024.Idx → F .f32) (t c : ℕ) (c' : ℕ) (off : Fin 2 → ℕ) (hc' : c' = c + 16) (hoff : off = ![t, c])
    (inb : ∀ a, off a + S1x16.size a ≤ S32x1024.size a)
    (hx : ((Memref.whole cc0_scratch0).access (Rect.unit (s := S32x1024) off S1x16.size inb)).Stores Finset.univ) (hm) :
    blk d L (zeroed f t c)
      ⊢ wpt d L (Prog.lift (.store (Memref.whole cc0_scratch0) (Rect.unit (s := S32x1024) off S1x16.size inb)
          (shapeCast S1x16 k0_pay1 shapeCasts_S16_S1x16) Finset.univ hx hm)) fun _ => blk d L (zeroed f t c') := by
  subst hc'
  unfold Prog.lift
  iintro H
  iapply (wp_store (defs := defs₀ (F := F)) 𝒱₀ (tile d L) none Set.univ (m := (Memref.whole cc0_scratch0)) (Mk := Finset.univ) (S := Finset.univ)
    (r := Rect.unit (s := S32x1024) off S1x16.size inb) (f := zeroed f t c) (Finset.subset_univ _)) $$ H
  rw [zeroed_store f t c off hoff inb]
  iintro H
  rw [wp_ret]; imodintro; iexact H

theorem zero_load (f : S32x1024.Idx → F .f32) (r : LoadRect S32x1024) (hl : (Memref.whole cc0_scratch0).view.LoadsAt r) :
    blk d L f ⊢ wpt d L (Prog.lift (.load (Memref.whole cc0_scratch0) r hl)) fun _ => blk d L f := by
  unfold Prog.lift
  iintro H
  iapply (wp_load (defs := defs₀ (F := F)) 𝒱₀ (tile d L) none Set.univ (m := (Memref.whole cc0_scratch0)) (S := Finset.univ)
    (r := r) (q := fullShare) (f := f) (Finset.subset_univ _)) $$ H
  iintro H
  rw [wp_ret]; imodintro; iexact H

theorem zero_pure {α : Type} {P : sProp 𝕄} (a : α) : P ⊢ wpt d L (pure a) fun _ => P := by
  show P ⊢ wp _ _ _ _ _
  iintro H
  rw [wp_pure]; imodintro; iexact H

theorem zero_part1 (f : S32x1024.Idx → F .f32) (t : Fin k0_t1_loop.trips) :
    blk d L (zeroed f t.val 0) ⊢ wpt d L (k0_part1 L (Memref.whole main_arg1_scv) (Memref.isWhole_whole _) (Memref.whole main_arg2_scv) (Memref.isWhole_whole _)
        (Memref.whole main_v0_scv) (Memref.isWhole_whole _) (Memref.whole cc0_scratch0) (Memref.isWhole_whole _) (Memref.whole cc0_scratch1)
        (Memref.isWhole_whole _) (Memref.whole cc0_scratch2) (Memref.isWhole_whole _) cc0_scoped0 cc0_scoped1 cc0_scoped2 k0_pay1 0#32 1#32 t) fun _ => blk d L (zeroed f t.val 176) := by
  rw [k0_part1_eq_skeleton]; unfold k0_part1_skel
  iterate 11
    refine step d L (zero_load d L _ _ _) fun _ => ?_
    refine step d L (zero_store d L _ _ _ _ _ rfl ClosedOff.eq _ _ _) fun _ => ?_
  refine step d L (zero_load d L _ _ _) fun _ => ?_
  exact zero_pure d L _

theorem zero_part2 (f : S32x1024.Idx → F .f32) (t : Fin k0_t1_loop.trips) (i : BitVec 32) :
    blk d L (zeroed f t.val 176) ⊢ wpt d L (k0_part2 L (Memref.whole main_arg1_scv) (Memref.isWhole_whole _) (Memref.whole main_arg2_scv) (Memref.isWhole_whole _)
        (Memref.whole main_v0_scv) (Memref.isWhole_whole _) (Memref.whole cc0_scratch0) (Memref.isWhole_whole _) (Memref.whole cc0_scratch1)
        (Memref.isWhole_whole _) (Memref.whole cc0_scratch2) (Memref.isWhole_whole _) cc0_scoped0 cc0_scoped1 cc0_scoped2 k0_pay1 t i) fun _ => blk d L (zeroed f t.val 368) := by
  rw [k0_part2_eq_skeleton]; unfold k0_part2_skel
  iterate 12
    refine step d L (zero_store d L _ _ _ _ _ rfl ClosedOff.eq _ _ _) fun _ => ?_
    refine step d L (zero_load d L _ _ _) fun _ => ?_
  exact zero_pure d L _

theorem zero_part3 (f : S32x1024.Idx → F .f32) (t : Fin k0_t1_loop.trips) (i : BitVec 32) :
    blk d L (zeroed f t.val 368) ⊢ wpt d L (k0_part3 L (Memref.whole main_arg1_scv) (Memref.isWhole_whole _) (Memref.whole main_arg2_scv) (Memref.isWhole_whole _)
        (Memref.whole main_v0_scv) (Memref.isWhole_whole _) (Memref.whole cc0_scratch0) (Memref.isWhole_whole _) (Memref.whole cc0_scratch1)
        (Memref.isWhole_whole _) (Memref.whole cc0_scratch2) (Memref.isWhole_whole _) cc0_scoped0 cc0_scoped1 cc0_scoped2 k0_pay1 t i) fun _ => blk d L (zeroed f t.val 560) := by
  rw [k0_part3_eq_skeleton]; unfold k0_part3_skel
  iterate 12
    refine step d L (zero_store d L _ _ _ _ _ rfl ClosedOff.eq _ _ _) fun _ => ?_
    refine step d L (zero_load d L _ _ _) fun _ => ?_
  exact zero_pure d L _

theorem zero_part4 (f : S32x1024.Idx → F .f32) (t : Fin k0_t1_loop.trips) (i : BitVec 32) :
    blk d L (zeroed f t.val 560) ⊢ wpt d L (k0_part4 L (Memref.whole main_arg1_scv) (Memref.isWhole_whole _) (Memref.whole main_arg2_scv) (Memref.isWhole_whole _)
        (Memref.whole main_v0_scv) (Memref.isWhole_whole _) (Memref.whole cc0_scratch0) (Memref.isWhole_whole _) (Memref.whole cc0_scratch1)
        (Memref.isWhole_whole _) (Memref.whole cc0_scratch2) (Memref.isWhole_whole _) cc0_scoped0 cc0_scoped1 cc0_scoped2 k0_pay1 t i) fun _ => blk d L (zeroed f t.val 752) := by
  rw [k0_part4_eq_skeleton]; unfold k0_part4_skel
  iterate 12
    refine step d L (zero_store d L _ _ _ _ _ rfl ClosedOff.eq _ _ _) fun _ => ?_
    refine step d L (zero_load d L _ _ _) fun _ => ?_
  exact zero_pure d L _

theorem zero_part5 (f : S32x1024.Idx → F .f32) (t : Fin k0_t1_loop.trips) (i : BitVec 32) :
    blk d L (zeroed f t.val 752) ⊢ wpt d L (k0_part5 L (Memref.whole main_arg1_scv) (Memref.isWhole_whole _) (Memref.whole main_arg2_scv) (Memref.isWhole_whole _)
        (Memref.whole main_v0_scv) (Memref.isWhole_whole _) (Memref.whole cc0_scratch0) (Memref.isWhole_whole _) (Memref.whole cc0_scratch1)
        (Memref.isWhole_whole _) (Memref.whole cc0_scratch2) (Memref.isWhole_whole _) cc0_scoped0 cc0_scoped1 cc0_scoped2 k0_pay1 t i) fun _ => blk d L (zeroed f t.val 944) := by
  rw [k0_part5_eq_skeleton]; unfold k0_part5_skel
  iterate 12
    refine step d L (zero_store d L _ _ _ _ _ rfl ClosedOff.eq _ _ _) fun _ => ?_
    refine step d L (zero_load d L _ _ _) fun _ => ?_
  exact zero_pure d L _

/-- One trip zeroes row `t`. -/
theorem zero_trip (f : S32x1024.Idx → F .f32) (t : Fin k0_t1_loop.trips) (u : Unit) :
    blk d L (zeroed f t.val 0) ⊢ wpt d L (k0_t1_body L (Memref.whole main_arg1_scv) (Memref.isWhole_whole _) (Memref.whole main_arg2_scv) (Memref.isWhole_whole _)
        (Memref.whole main_v0_scv) (Memref.isWhole_whole _) (Memref.whole cc0_scratch0) (Memref.isWhole_whole _) (Memref.whole cc0_scratch1)
        (Memref.isWhole_whole _) (Memref.whole cc0_scratch2) (Memref.isWhole_whole _) cc0_scoped0 cc0_scoped1 cc0_scoped2 t u) fun _ => blk d L (zeroed f (t.val + 1) 0) := by
  unfold k0_t1_body
  refine step d L (zero_part1 d L f t) fun arg8 => ?_
  refine step d L (zero_part2 d L f t arg8) fun _ => ?_
  refine step d L (zero_part3 d L f t arg8) fun _ => ?_
  refine step d L (zero_part4 d L f t arg8) fun _ => ?_
  refine step d L (zero_part5 d L f t arg8) fun _ => ?_
  refine step d L (zero_store d L _ _ _ 960 _ rfl ClosedOff.eq _ _ _) fun _ => ?_
  refine step d L (zero_load d L _ _ _) fun _ => ?_
  refine step d L (zero_store d L _ _ _ 976 _ rfl ClosedOff.eq _ _ _) fun _ => ?_
  refine step d L (zero_load d L _ _ _) fun _ => ?_
  refine step d L (zero_store d L _ _ _ 992 _ rfl ClosedOff.eq _ _ _) fun _ => ?_
  refine step d L (zero_load d L _ _ _) fun _ => ?_
  refine step d L (zero_store d L _ _ _ 1008 _ rfl ClosedOff.eq _ _ _) fun _ => ?_
  refine step d L (zero_load d L _ _ _) fun _ => ?_
  refine step d L (zero_store d L _ _ _ 1024 _ rfl ClosedOff.eq _ _ _) fun _ => ?_
  rw [zeroed_next]
  exact zero_pure d L _

theorem zeroed_all (f : S32x1024.Idx → F .f32) (ids : S32x64.Idx → BitVec 32) (ns : S32.Idx → BitVec 32) :
    zeroed f 32 0 = block ids ns fun _ => 0 := by
  funext j
  have hj : (j 0).val < 32 := (j 0).isLt
  unfold zeroed block tally
  exact if_pos (Or.inl hj)

theorem zeroed_none (f : S32x1024.Idx → F .f32) : zeroed f 0 0 = f := by
  funext j
  unfold zeroed
  exact if_neg (by omega)

/-- A counted loop whose invariant is on the trips alone. -/
theorem loop_of {l : Scf.Loop 32} {hok : l.OK} {n : ℕ} (hn : l.trips = n)
    {body : Fin l.trips → Unit → Prog (TpuEff nD τ sig (Elt F) Λ₀ (.scVector (cV L) (jV L))) Unit} (I : ℕ → sProp 𝕄)
    (hbody : ∀ k u, I k.val ⊢ wpt d L (body k u) fun _ => I (k.val + 1)) :
    I 0 ⊢ wpt d L (Scf.Loop.for l hok () body) fun _ => I n := by
  subst hn
  iintro H
  iapply (Scf.wp_for frame (wpE (defs₀ (F := F)) 𝒱₀ (tile d L) none) Set.univ l.lb l.ub l.st hok () body (fun k _ => I k) hbody)
  isplitl [H]; · iexact H
  iintro %acc H; iexact H

/-- The zeroing loop leaves the block with nothing counted. -/
theorem zero_loop (f : S32x1024.Idx → F .f32) (ids : S32x64.Idx → BitVec 32) (ns : S32.Idx → BitVec 32) :
    blk d L f ⊢ wpt d L (Scf.Loop.for k0_t1_loop k0_t1_ok ⟨⟩ (k0_t1_body L (Memref.whole main_arg1_scv) (Memref.isWhole_whole _) (Memref.whole main_arg2_scv) (Memref.isWhole_whole _)
        (Memref.whole main_v0_scv) (Memref.isWhole_whole _) (Memref.whole cc0_scratch0) (Memref.isWhole_whole _) (Memref.whole cc0_scratch1)
        (Memref.isWhole_whole _) (Memref.whole cc0_scratch2) (Memref.isWhole_whole _) cc0_scoped0 cc0_scoped1 cc0_scoped2)) fun _ => blk d L (block ids ns fun _ => 0) := by
  have h := loop_of d L (l := k0_t1_loop) (hok := k0_t1_ok) (n := 32) (by decide) (fun t => blk d L (zeroed f t 0)) (zero_trip d L f)
  rw [zeroed_none, zeroed_all f ids ns] at h
  exact h

end

end Cert.Proof.Spikes

end
-- ==== Proof.Spike.lean ====
/-
  The tile's two counting loops: each trip reads one spike index of sixteen rows and adds ones at the columns they name,
  for the lanes whose row has a spike there. A trip takes the block of tallies one index further in its group
  (`scatter_step`), so that the loop takes it from none to all sixty-four.
-/
module

public import proofs.«01_k».proof.Proof.Zero

@[expose] public section

noncomputable section

namespace Cert.Proof.Spikes

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2)

variable {F : FTy → Type} [FloatOps F]

local notation "𝕄" => MT nD τ sig (HIx 1) (Elt F) ℕ UU ℕ

section

variable (d : Dev nD) (L : grid0.Coords)

/-- The tile's indices and counts. -/
abbrev iblk (fi : S32x64.Idx → BitVec 32) : sProp 𝕄 := (tile d L).loc cc0_scratch1 ↦{fullShare} fi
abbrev nblk (fn : S32.Idx → BitVec 32) : sProp 𝕄 := (tile d L).loc cc0_scratch2 ↦{fullShare} fn

theorem iv_eq (k : ℕ) : Scf.iv 0#32 1#32 k = BitVec.ofNat 32 k := by
  unfold Scf.iv; simp

theorem mask_eq (v : Vec F S16 .i32) (k : Fin k0_t2_loop.trips) (x : S16.Idx) :
    k0_pay4 (F := F) v k x = 1 ↔ (BitVec.ofNat 32 k.val).slt (v x) = true := by
  have e : k0_pay4 (F := F) v k x = BitVec.ofBool ((BitVec.ofNat 32 k.val).slt (v x)) := by
    rw [← iv_eq]; rfl
  rw [e]
  cases (BitVec.ofNat 32 k.val).slt (v x) <;> decide

/-- One trip of group `g`'s counting loop. -/
theorem spike_trip (fi : S32x64.Idx → BitVec 32) (fn : S32.Idx → BitVec 32) (hfi : ∀ j, (fi j).toNat < 1024) (g : ℕ) (hg : g < 2)
    (v7 : Vec F S16 .i32) (hv7 : ∀ x, v7 x = fn (ix1 (rowOf g hg x))) (t t' : ℕ → ℕ) (k : Fin k0_t2_loop.trips) (u : Unit)
    (htg : t g = k.val) (htg' : t' g = k.val + 1) (hother : ∀ g', g' ≠ g → t' g' = t g') :
    iprop(iblk d L fi ∗ blk d L (block fi fn t))
      ⊢ wpt d L (k0_t2_body L (Memref.whole main_arg1_scv) (Memref.isWhole_whole _) (Memref.whole main_arg2_scv) (Memref.isWhole_whole _)
        (Memref.whole main_v0_scv) (Memref.isWhole_whole _) (Memref.whole cc0_scratch0) (Memref.isWhole_whole _) (Memref.whole cc0_scratch1)
        (Memref.isWhole_whole _) (Memref.whole cc0_scratch2) (Memref.isWhole_whole _) cc0_scoped0 cc0_scoped1 cc0_scoped2 v7 (lanes g) k u) fun _ => iprop(iblk d L fi ∗ blk d L (block fi fn t')) := by
  have hk : k.val < 64 := lt_of_lt_of_eq k.isLt (by decide)
  have hmask : ∀ x, k0_pay4 (F := F) v7 k x = 1 ↔ (BitVec.ofNat 32 k.val).slt (fn (ix1 (rowOf g hg x))) = true := fun x => by
    rw [mask_eq, hv7]
  have hb : ∀ x : S16.Idx, (broadcast S16 (Scf.iv 0#32 1#32 k.val) x).toNat = k.val := fun x => by
    show (Scf.iv 0#32 1#32 k.val).toNat = k.val
    rw [iv_eq, BitVec.toNat_ofNat]; exact Nat.mod_eq_of_lt (by omega)
  have hrow : ∀ x, (lanes g x).toNat < 32 := fun x => by
    have hx : (x 0).val < 16 := (x 0).isLt
    rw [lanes_toNat g hg]; omega
  have h1 : k0_chk1 (lanes g) (broadcast S16 (Scf.iv 0#32 1#32 k.val)) := fun a x => by
    match a with
    | 0 => exact hrow x
    | 1 => exact lt_of_eq_of_lt (hb x) hk
  have hcol : ∀ x, loadIdx (s := S32x64) (F := F) (e := .i32) fi ![lanes g, broadcast S16 (Scf.iv 0#32 1#32 k.val)] h1 x = fi (ix2 (rowOf g hg x) ⟨k.val, hk⟩) := fun x => by
    refine congrArg fi (funext fun a => Fin.ext ?_)
    match a with
    | 0 => exact lanes_toNat g hg x
    | 1 => exact hb x
  have h2 : k0_chk2 (lanes g) (loadIdx (s := S32x64) (F := F) (e := .i32) fi ![lanes g, broadcast S16 (Scf.iv 0#32 1#32 k.val)] h1) := fun a x => by
    match a with
    | 0 => exact hrow x
    | 1 => exact lt_of_eq_of_lt (congrArg BitVec.toNat (hcol x)) (hfi _)
  unfold k0_t2_body
  iintro ⟨Hi, Hb⟩
  unfold Prog.lift
  iapply (Entails.of_eq (wp_assume_of (defs := defs₀ (F := F)) 𝒱₀ (tile d L) none Set.univ h1).symm)
  iapply (SparseCore.wp_vectorLoadIdx (defs := defs₀ (F := F)) 𝒱₀ (tile d L) none Set.univ (base := Memref.whole cc0_scratch1) (S := Finset.univ)
    (idxs := ![lanes g, broadcast S16 (Scf.iv 0#32 1#32 k.val)]) (h := h1) (hl := View.loads_vmem h_S32x64)
    (q := fullShare) (f := fi) (Finset.subset_univ _)) $$ Hi
  iintro Hi
  rw [show View.read (Elt F) ((Memref.whole cc0_scratch1).access (Rect.whole cc0_scratch1.ty.shape)) fi = fi from Memref.read_access_whole _ _ _]
  iapply (Entails.of_eq (wp_assume_of (defs := defs₀ (F := F)) 𝒱₀ (tile d L) none Set.univ h2).symm)
  iapply (SparseCore.wp_vectorStoreIdx (defs := defs₀ (F := F)) 𝒱₀ (tile d L) none Set.univ (base := Memref.whole cc0_scratch0)
    (idxs := ![lanes g, loadIdx (s := S32x64) (F := F) (e := .i32) fi ![lanes g, broadcast S16 (Scf.iv 0#32 1#32 k.val)] h1])
    (v := k0_pay2) (mask := k0_pay4 v7 k) (add := true) (h := h2) (hs := View.stores_vmem_bits_univ h_S32x1024 rfl)
    (f := block fi fn t)) $$ [Hb]
  · rw [Memref.set_access_whole]; iexact Hb
  rw [show View.read (Elt F) ((Memref.whole cc0_scratch0).access (Rect.whole cc0_scratch0.ty.shape)) (block fi fn t) = block fi fn t from Memref.read_access_whole _ _ _,
    show storeIdx (s := cc0_scratch0.ty.shape) (F := F) (e := .f32) (block fi fn t) ![lanes g, loadIdx (s := S32x64) (F := F) (e := .i32) fi ![lanes g, broadcast S16 (Scf.iv 0#32 1#32 k.val)] h1]
      k0_pay2 (k0_pay4 v7 k) true h2 = block fi fn t' from scatter_step fi fn t t' g hg k.val hk htg htg' hother _ _ hcol hmask h2,
    Memref.set_access_whole, Memref.write_access_whole_univ]
  iintro Hb
  rw [wp_pure]; imodintro
  isplitl [Hi] <;> iassumption

theorem block_congr (fi : S32x64.Idx → BitVec 32) (fn : S32.Idx → BitVec 32) {t t' : ℕ → ℕ} (h : ∀ g < 2, t g = t' g) :
    block (F := F) fi fn t = block fi fn t' := by
  funext j
  have hj : (j 0).val < 32 := (j 0).isLt
  unfold block
  rw [h _ (by omega)]

/-- The first group's loop counts rows 0 … 15. -/
theorem spike_loop0 (fi : S32x64.Idx → BitVec 32) (fn : S32.Idx → BitVec 32) (hfi : ∀ j, (fi j).toNat < 1024)
    (v7 : Vec F S16 .i32) (hv7 : ∀ x, v7 x = fn (ix1 (rowOf 0 (by decide) x))) :
    iprop(iblk d L fi ∗ blk d L (block fi fn fun _ => 0))
      ⊢ wpt d L (Scf.Loop.for k0_t2_loop k0_t2_ok ⟨⟩ (k0_t2_body L (Memref.whole main_arg1_scv) (Memref.isWhole_whole _) (Memref.whole main_arg2_scv) (Memref.isWhole_whole _)
        (Memref.whole main_v0_scv) (Memref.isWhole_whole _) (Memref.whole cc0_scratch0) (Memref.isWhole_whole _) (Memref.whole cc0_scratch1)
        (Memref.isWhole_whole _) (Memref.whole cc0_scratch2) (Memref.isWhole_whole _) cc0_scoped0 cc0_scoped1 cc0_scoped2 v7 k0_pay3)) fun _ => iprop(iblk d L fi ∗ blk d L (block fi fn fun g => if g = 0 then 64 else 0)) := by
  have h := loop_of d L (l := k0_t2_loop) (hok := k0_t2_ok) (n := 64) (by decide)
    (fun k => iprop(iblk d L fi ∗ blk d L (block fi fn fun g => if g = 0 then k else 0)))
    (fun k u => spike_trip d L fi fn hfi 0 (by decide) v7 hv7 _ _ k u (if_pos rfl) (if_pos rfl) fun g' hg' => by rw [if_neg hg', if_neg hg'])
  rw [pay3_eq]
  rwa [block_congr fi fn (t := fun g => if g = 0 then 0 else 0) (t' := fun _ => 0) fun g _ => by split <;> rfl] at h

/-- The second group's loop counts rows 16 … 31. -/
theorem spike_loop1 (fi : S32x64.Idx → BitVec 32) (fn : S32.Idx → BitVec 32) (hfi : ∀ j, (fi j).toNat < 1024)
    (v11 : Vec F S16 .i32) (hv11 : ∀ x, v11 x = fn (ix1 (rowOf 1 (by decide) x))) :
    iprop(iblk d L fi ∗ blk d L (block fi fn fun g => if g = 0 then 64 else 0))
      ⊢ wpt d L (Scf.Loop.for k0_t3_loop k0_t3_ok ⟨⟩ (k0_t3_body L (Memref.whole main_arg1_scv) (Memref.isWhole_whole _) (Memref.whole main_arg2_scv) (Memref.isWhole_whole _)
        (Memref.whole main_v0_scv) (Memref.isWhole_whole _) (Memref.whole cc0_scratch0) (Memref.isWhole_whole _) (Memref.whole cc0_scratch1)
        (Memref.isWhole_whole _) (Memref.whole cc0_scratch2) (Memref.isWhole_whole _) cc0_scoped0 cc0_scoped1 cc0_scoped2 v11 k0_pay5)) fun _ => iprop(iblk d L fi ∗ blk d L (block fi fn fun _ => 64)) := by
  have h := loop_of d L (l := k0_t2_loop) (hok := k0_t2_ok) (n := 64) (by decide)
    (fun k => iprop(iblk d L fi ∗ blk d L (block fi fn fun g => if g = 1 then k else if g = 0 then 64 else 0)))
    (fun k u => spike_trip d L fi fn hfi 1 (by decide) v11 hv11 _ _ k u (if_pos rfl) (if_pos rfl) fun g' hg' => by rw [if_neg hg', if_neg hg'])
  rw [pay5_eq]
  rw [block_congr fi fn (t := fun g => if g = 1 then 0 else if g = 0 then 64 else 0) (t' := fun g => if g = 0 then 64 else 0) fun g hg => by
      split
      · rename_i e; rw [e]; rfl
      · rfl,
    block_congr fi fn (t := fun g => if g = 1 then 64 else if g = 0 then 64 else 0) (t' := fun _ => 64) fun g hg => by
      split
      · rfl
      · rw [if_pos (by omega)]] at h
  exact h

end

end Cert.Proof.Spikes

end
-- ==== Proof.Tile.lean ====
/-
  One tile's task, whole: it copies its 32 rows of spike indices and its 32 spike counts in, zeroes its block, counts the
  two groups of sixteen rows, and copies the block out into its 32 rows of the tallies.
-/
module

public import proofs.«01_k».proof.Proof.Spike

@[expose] public section

noncomputable section

namespace Cert.Proof.Spikes

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type} [FloatOps F]

local notation "𝕄" => MT nD τ sig (HIx 1) (Elt F) ℕ UU ℕ

section

variable (d : Dev nD) (L : grid0.Coords)

/-- The tile's rows of the indices, of the counts and of the tallies, as its copies address them. -/
abbrev iRow : Memref sig .scVector .hbm S32x64 .i32 :=
  (Memref.whole main_arg1_scv).slice (Rect.unit (s := S1024x64) (k0_off1 L) S32x64.size (k0_off1_inb L)) (fun _ => rfl)
abbrev nRow : Memref sig .scVector .hbm S32 .i32 :=
  (Memref.whole main_arg2_scv).slice (Rect.unit (s := S1024) (k0_off2 L) S32.size (k0_off2_inb L)) (fun _ => rfl)
abbrev aRow : Memref sig .scVector .hbm S32x1024 .f32 :=
  (Memref.whole main_v0_scv).slice (Rect.unit (s := S1024x1024) (k0_off67 L) S32x1024.size (k0_off67_inb L)) (fun _ => rfl)

abbrev iPts (f : Buf (Elt F) (iLoc d)) : sProp 𝕄 := iLoc d ↦[(iRow L).view.set]{fullShare} f
abbrev nPts (f : Buf (Elt F) (nLoc d)) : sProp 𝕄 := nLoc d ↦[(nRow L).view.set]{fullShare} f
abbrev aPts (f : Buf (Elt F) (aLoc d)) : sProp 𝕄 := aLoc d ↦[(aRow L).view.set]{fullShare} f

/-- What the two copies in bring. -/
def ids_ (f : Buf (Elt F) (iLoc d)) : S32x64.Idx → BitVec 32 := (iRow L).view.read (Elt F) f
def ns_ (f : Buf (Elt F) (nLoc d)) : S32.Idx → BitVec 32 := (nRow L).view.read (Elt F) f

/-- The tile's first row. -/
abbrev base : ℕ := 64 * (L 1).val + 32 * (L 0).val

theorem base_le : base L + 32 ≤ 1024 := by
  have h1 : (L 1).val < 16 := (L 1).isLt
  have h0 : (L 0).val < 2 := (L 0).isLt
  unfold base; omega

/-- Row `r` of the tile's in the whole arrays. -/
def big (r : Fin 32) : Fin 1024 := ⟨base L + r.val, by have := base_le L; omega⟩

theorem ids_apply (f : Buf (Elt F) (iLoc d)) (r : Fin 32) (k : Fin 64) : ids_ d L f (ix2 r k) = f (ix2 (big L r) k) := by
  refine (View.read_apply _ _).trans ((cast_eq _ _).trans (congrArg f (funext fun a => Fin.ext ?_)))
  show k0_off1 L a + 1 * (ix2 r k a).val = _
  rw [k0_off1_eq]
  match a with
  | 0 => show 64 * (L 1).val + 32 * (L 0).val + 1 * r.val = base L + r.val; unfold base; omega
  | 1 => show 0 + 1 * k.val = k.val; omega

theorem ns_apply (f : Buf (Elt F) (nLoc d)) (r : Fin 32) : ns_ d L f (ix1 r) = f (ix1 (big L r)) := by
  refine (View.read_apply _ _).trans ((cast_eq _ _).trans (congrArg f (funext fun a => Fin.ext ?_)))
  show k0_off2 L a + 1 * (ix1 r a).val = _
  rw [k0_off2_eq]
  match a with
  | 0 => show 64 * (L 1).val + 32 * (L 0).val + 1 * r.val = base L + r.val; unfold base; omega

/-- The tile's finished block, where it lands, is the tallies. -/
theorem out_eq (fi : Buf (Elt F) (iLoc d)) (fn : Buf (Elt F) (nLoc d)) (fa : Buf (Elt F) (aLoc d)) (i : Idx (aLoc d)) (hi : i ∈ (aRow L).view.set) :
    (aRow L).view.write (Elt F) fa (block (F := F) (ids_ d L fi) (ns_ d L fn) fun _ => 64) Finset.univ i = counts (F := F) fi fn i := by
  obtain ⟨x, -, rfl⟩ := Finset.mem_map.mp hi
  rw [View.write_emb_of_mem _ _ (Finset.mem_univ x)]
  refine (cast_eq _ _).trans ?_
  let r : Fin 32 := x 0
  have e0 : (aRow L).view.emb x 0 = big L r := Fin.ext (by
    show k0_off67 L 0 + 1 * (x 0).val = base L + (x 0).val
    rw [k0_off67_eq]; show 64 * (L 1).val + 32 * (L 0).val + 1 * (x 0).val = base L + (x 0).val; unfold base; omega)
  have e1 : ((aRow L).view.emb x 1).val = (x 1).val := by
    show k0_off67 L 1 + 1 * (x 1).val = _
    rw [k0_off67_eq]; show 0 + 1 * (x 1).val = (x 1).val; omega
  show tally (fun k => ids_ d L fi (ix2 r k)) (ns_ d L fn (ix1 r)) (x 1).val 64
    = tally (fun k => fi (ix2 ((aRow L).view.emb x 0) k)) (fn (ix1 ((aRow L).view.emb x 0))) ((aRow L).view.emb x 1).val 64
  rw [show (fun k => ids_ d L fi (ix2 r k)) = fun k => fi (ix2 (big L r) k) from funext fun k => ids_apply d L fi _ k, ns_apply, e1,
    show (fun k => fi (ix2 ((aRow L).view.emb x 0) k)) = fun k => fi (ix2 (big L r) k) from by rw [e0],
    show fn (ix1 ((aRow L).view.emb x 0)) = fn (ix1 (big L r)) from by rw [e0]]

/-- One operation and then the rest, as a step in a proof that holds more. -/
theorem stepw {α β : Type} {p : Prog (TpuEff nD τ sig (Elt F) Λ₀ (.scVector (cV L) (jV L))) β}
    {k : β → Prog (TpuEff nD τ sig (Elt F) Λ₀ (.scVector (cV L) (jV L))) α} {P R : sProp 𝕄} {Q : α → sProp 𝕄}
    (h : P ⊢ wpt d L p fun _ => R) :
    P ⊢ iprop((∀ x, R -∗ wp frame (wpE (defs₀ (F := F)) 𝒱₀ (tile d L) none) Set.univ (k x) Q)
      -∗ wp frame (wpE (defs₀ (F := F)) 𝒱₀ (tile d L) none) Set.univ (p >>= k) Q) := by
  rw [wp_bind]
  exact h.trans (wp_wand _ _ _)

theorem load_lane (fn : S32.Idx → BitVec 32) (g : ℕ) (hg : g < 2) (off : Fin 1 → ℕ) (hoff : off = ![16 * g]) (inb : ∀ a, off a + S16.size a ≤ S32.size a) (x : S16.Idx) :
    (View.readAt (Elt F) (Memref.whole cc0_scratch2).view (Rect.unit (s := S32) off S16.size inb).toLoadRect fn : Vec F S16 .i32) x
      = fn (ix1 (rowOf g hg x)) := by
  subst hoff
  refine (View.read_apply _ _).trans ((cast_eq _ _).trans (congrArg fn (funext fun a => Fin.ext ?_)))
  match a with
  | 0 => show 16 * g + 1 * (x 0).val = (x 0).val + 16 * g; omega

/-- The copy out lands its payload whole. -/
theorem land_whole (fa : Buf (Elt F) (aLoc d)) (w : S32x1024.Idx → F .f32) (i : Idx (aLoc d)) (hi : i ∈ (aRow L).view.set) :
    (aRow L).view.writes (Elt F) fa [⟨Rect.whole S32x1024, w⟩] i = (aRow L).view.write (Elt F) fa w Finset.univ i := by
  obtain ⟨x, -, rfl⟩ := Finset.mem_map.mp hi
  have e : ((aRow L).view.slice (Rect.whole S32x1024)).emb x = (aRow L).view.emb x := congrArg (aRow L).view.emb (Rect.emb_whole_apply S32x1024 x)
  rw [View.write_emb_of_mem _ _ (Finset.mem_univ x), View.writes_cons, View.writes_nil, ← e, View.write_emb_of_mem _ _ (Finset.mem_univ x)]

abbrev cAcell : GSem nD τ sig := (tile d L, .dma cc0_scoped0.sem)
abbrev cBcell : GSem nD τ sig := (tile d L, .dma cc0_scoped1.sem)
abbrev cCcell : GSem nD τ sig := (tile d L, .dma cc0_scoped2.sem)

omit [FloatOps F] in
theorem ownSems0_V :
    (ownSems0 (tile d L) : sProp 𝕄)
      = iprop(semVal (cAcell d L) 0 ∗ semVal (cBcell d L) 0 ∗ semVal (cCcell d L) 0
          ∗ bigSep ((((ownCells (tile d L)).erase (cAcell d L)).erase (cBcell d L)).erase (cCcell d L)) fun g => semVal g 0) := by
  unfold SparseCore.Cfg.ownSems0
  rw [SparseCore.bigSep_erase' ((mem_ownCells (g := cAcell d L)).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d L)).mpr ⟨rfl, by
      show (SemLoc.dma cc0_scoped1.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d L)).mpr ⟨rfl, by show (SemLoc.dma cc0_scoped2.sem : SemLoc sig).isScoped .scVector = true; decide⟩⟩⟩)]

/-- The device buffer of a tile's scratch. -/
abbrev sRef (b : Ref sig .scVector) : DevRef τ sig := (Proc.scVector (cV L) (jV L)).devRef b

omit [FloatOps F] in
/-- The three scratch buffers are among the tile's own: they are them, at some contents, and the rest. -/
theorem ownBufs_V :
    (ownBufs (tile d L) : sProp 𝕄)
      = iprop((∃ f, (tile d L).loc cc0_scratch0 ↦{fullShare} f) ∗ (∃ f, (tile d L).loc cc0_scratch1 ↦{fullShare} f) ∗ (∃ f, (tile d L).loc cc0_scratch2 ↦{fullShare} f)
          ∗ bigSep ((((ownRefs (τ := τ) (.scVector (cV L) (jV L))).erase (sRef L cc0_scratch0)).erase (sRef L cc0_scratch1)).erase (sRef L cc0_scratch2))
              fun b => iprop(∃ f, ((d, b) : Loc nD τ sig) ↦{fullShare} f)) := by
  have own (b : Ref sig .scVector) (h : (sRef L b).owner = .proc (.scVector (cV L) (jV L))) : sRef L b ∈ ownRefs (τ := τ) (.scVector (cV L) (jV L)) :=
    SparseCore.Cfg.mem_ownRefs_of_owner (p := Proc.scVector (cV L) (jV L)) h
  have ne (b b' : Ref sig .scVector) (h : b ≠ b') : sRef L b ≠ sRef L b' := fun e => h (Proc.devRef_injective _ e)
  unfold SparseCore.Cfg.ownBufs
  rw [SparseCore.bigSep_erase' (own cc0_scratch0 rfl),
    SparseCore.bigSep_erase' (Finset.mem_erase.mpr ⟨ne cc0_scratch1 cc0_scratch0 (by decide), own cc0_scratch1 rfl⟩),
    SparseCore.bigSep_erase' (Finset.mem_erase.mpr ⟨ne cc0_scratch2 cc0_scratch1 (by decide),
      Finset.mem_erase.mpr ⟨ne cc0_scratch2 cc0_scratch0 (by decide), own cc0_scratch2 rfl⟩⟩)]

set_option maxHeartbeats 4000000 in
theorem tile_body (hF : (K (F := F)).Facts) (fi : Buf (Elt F) (iLoc d)) (fn : Buf (Elt F) (nLoc d)) (fa : Buf (Elt F) (aLoc d))
    (hpre : ∀ j, (fi j : BitVec 32).toNat < 1024) (O : CellTallies nD τ sig (HIx 1)) (W : Waits sig (HIx 1)) (hO : ∀ g, O g none = 0) :
    iprop(levAts (K (F := F)).L (K (F := F)).lev ∗ emp
        ∗ (iPts d L fi ∗ nPts d L fn ∗ aPts d L fa)
        ∗ scopedBufs (tile d L) ∗ scopedSems0 (tile d L) ∗ owes (tile d L) O W)
      ⊢ wp frame (wpE (defs₀ (F := F)) 𝒱₀ (tile d L) none) Set.univ
          (cc0__build_counts_body L (Memref.whole main_arg1_scv) (Memref.isWhole_whole _) (Memref.whole main_arg2_scv) (Memref.isWhole_whole _)
            (Memref.whole main_v0_scv) (Memref.isWhole_whole _) (Memref.whole cc0_scratch0) (Memref.isWhole_whole _) (Memref.whole cc0_scratch1)
            (Memref.isWhole_whole _) (Memref.whole cc0_scratch2) (Memref.isWhole_whole _) cc0_scoped0 cc0_scoped1 cc0_scoped2)
          fun _ => iprop((iPts d L fi ∗ nPts d L fn ∗ aPts d L (counts (F := F) fi fn))
            ∗ scopedBufs (tile d L) ∗ scopedSems0 (tile d L)
            ∗ ∃ W', ⌜∀ p ∈ W', p ∈ W ∨ p.2 = none⌝ ∗ owes (tile d L) O W') := by
  have hfi : ∀ j, (ids_ d L fi j).toNat < 1024 := fun j => by
    have e := ids_apply d L fi (j 0) (j 1)
    rw [show (ix2 (j 0) (j 1) : S32x64.Idx) = j from (ValueIdx.eq_ix2 (n0 := 32) (n1 := 64) j).symm] at e
    rw [e]; exact hpre _
  simp only [cc0__build_counts_body_eq_skeleton]; unfold cc0__build_counts_body_skel
  rw [k0_part6_eq_skeleton]; unfold k0_part6_skel
  rw [(K (F := F)).scopedBufs_V hF d (cV L) (jV L), SparseCore.Cfg.scopedSems0_V (Val := Elt F) d (cV L) (jV L), ownSems0_V, ownBufs_V]
  iintro ⟨#Hlv, -, ⟨Hi, Hn, Ha⟩, ⟨⟨%f0, H0⟩, ⟨%f1, H1⟩, ⟨%f2, H2⟩, Hbufs⟩, ⟨HsemA, HsemB, HsemC, Hsems⟩, HO⟩
  ihave Hmw := (show levAts (K (F := F)).L (K (F := F)).lev ⊢ Transfers.MayWaits (tile d L) (default : HIx 1) O from
    (K (F := F)).mayWaits_none (thr := tile d L) hO) $$ Hlv
  ihave Hi' := (Entails.of_eq (show iPts d L fi = ((iRow L).view.loc (tile d L) ↦[(iRow L).view.set]{fullShare} fi : sProp 𝕄) from rfl)) $$ Hi
  ihave Hn' := (Entails.of_eq (show nPts d L fn = ((nRow L).view.loc (tile d L) ↦[(nRow L).view.set]{fullShare} fn : sProp 𝕄) from rfl)) $$ Hn
  ihave Ha' := (Entails.of_eq (show aPts d L fa = ((aRow L).view.loc (tile d L) ↦[(aRow L).view.set]{fullShare} fa : sProp 𝕄) from rfl)) $$ Ha
  ihave H0' := (Entails.of_eq (show ((tile d L).loc cc0_scratch0 ↦{fullShare} f0 : sProp 𝕄) = ((Memref.whole cc0_scratch0).view.loc (tile d L) ↦{fullShare} f0 : sProp 𝕄) from rfl)) $$ H0
  ihave H1' := (Entails.of_eq (show ((tile d L).loc cc0_scratch1 ↦{fullShare} f1 : sProp 𝕄) = ((Memref.whole cc0_scratch1).view.loc (tile d L) ↦{fullShare} f1 : sProp 𝕄) from rfl)) $$ H1
  ihave H2' := (Entails.of_eq (show ((tile d L).loc cc0_scratch2 ↦{fullShare} f2 : sProp 𝕄) = ((Memref.whole cc0_scratch2).view.loc (tile d L) ↦{fullShare} f2 : sProp 𝕄) from rfl)) $$ H2
  sl_exec
  rw [wp_bind]
  ihave H1 := (Entails.of_eq (show ((Memref.whole cc0_scratch1).view.loc (tile d L) ↦{fullShare} View.write (Elt F) (Memref.whole cc0_scratch1).view f1 (tile_body.sl.dma0 d L fi) Finset.univ : sProp 𝕄)
      = iblk d L (ids_ d L fi) by rw [View.write_whole_univ]; rfl)) $$ H1'
  ihave H2 := (Entails.of_eq (show ((Memref.whole cc0_scratch2).view.loc (tile d L) ↦{fullShare} View.write (Elt F) (Memref.whole cc0_scratch2).view f2 (tile_body.sl.dma0_1 d L fn) Finset.univ : sProp 𝕄)
      = ((Memref.whole cc0_scratch2).view.loc (tile d L) ↦{fullShare} ns_ d L fn : sProp 𝕄) by rw [View.write_whole_univ]; rfl)) $$ H2'
  iapply (stepw d L (zero_loop d L f0 (ids_ d L fi) (ns_ d L fn))) $$ H0'
  iintro %u H0
  sl_exec
  iapply (stepw d L (spike_loop0 d L (ids_ d L fi) (ns_ d L fn) hfi _ (load_lane _ 0 (by decide) ![0] rfl _))) $$ [H1 H0]
  · isplitl [H1] <;> iassumption
  iintro %u1 ⟨H1, H0⟩
  sl_exec
  iapply (stepw d L (spike_loop1 d L (ids_ d L fi) (ns_ d L fn) hfi _ (load_lane _ 1 (by decide) ![16] rfl _))) $$ [H1 H0]
  · isplitl [H1] <;> iassumption
  iintro %u2 ⟨H1, H0⟩
  ihave H0' := (Entails.of_eq (show blk d L (block (ids_ d L fi) (ns_ d L fn) fun _ => 64)
      = ((Memref.whole cc0_scratch0).view.loc (tile d L) ↦{fullShare} block (ids_ d L fi) (ns_ d L fn) fun _ => 64 : sProp 𝕄) from rfl)) $$ H0
  sl_exec
  rw [wp_ret]; imodintro
  isplitl [Hi' Hn' Ha']
  · isplitl [Hi']; · iexact Hi'
    isplitl [Hn']; · iexact Hn'
    iapply (Entails.of_eq (pointsTo_congr (ℓ := aLoc d) (I := (aRow L).view.set) (q := fullShare) fun i hi =>
      (land_whole d L fa (tile_body.sl.dma0_2 d L fi fn) i hi).trans (out_eq d L fi fn fa i hi)))
    iexact Ha'
  isplitl [H0' H1 H2 Hbufs]
  · isplitl [H0']; · iexists _; iexact H0'
    isplitl [H1]; · iexists _; iexact H1
    isplitl [H2]; · iexists _; iexact H2
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end

end Cert.Proof.Spikes

end
-- ==== Proof.Launch.lean ====
/-
  The SparseCore launch: what each of its 32 tasks is handed and hands back, the task's obligation, and the three
  arrays split into the tasks' rows and put together again.
-/
module

public import proofs.«01_k».proof.Proof.Tile

@[expose] public section

noncomputable section

namespace Cert.Proof.Spikes

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type} [FloatOps F]

local notation "𝕄" => MT nD τ sig (HIx 1) (Elt F) ℕ UU ℕ

variable (m : (ℓ : Loc nD τ sig) → Buf (Elt F) ℓ)

/-! ## The tasks -/

/-- The coordinates of the task on SparseCore `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- What task `L` is handed: its rows of the indices, the counts and the tallies, as the memory `m` has them. -/
abbrev given (d : Dev nD) (L : grid0.Coords) : sProp 𝕄 :=
  iprop(iPts d L (m (iLoc d)) ∗ nPts d L (m (nLoc d)) ∗ aPts d L (m (aLoc d)))
/-- What it hands back: its rows of the tallies now counted. -/
abbrev handed (d : Dev nD) (L : grid0.Coords) : sProp 𝕄 :=
  iprop(iPts d L (m (iLoc d)) ∗ nPts d L (m (nLoc d)) ∗ aPts d L (counts (F := F) (m (iLoc d)) (m (nLoc d))))

/-- What the handshakes carry: to and from a task its rows, to and from a SparseCore the rows of its sixteen tasks. -/
def P : (K (F := F)).Pay (nD := nD) (Val := Elt F) (Name := ℕ) (U := UU) where
  st q d c := match q with | 0 => bigSep Finset.univ fun i : Fin (grid0.bound 1) => given m d (coordsV c i)
  dn q d c := match q with | 0 => bigSep Finset.univ fun i : Fin (grid0.bound 1) => handed m d (coordsV c i)
  go q d c i := match q with | 0 => given m d (coordsV c i)
  td q d c i := match q with | 0 => handed m d (coordsV c i)
  x := fun _ _ => iprop(emp)

instance P_storable : (P (F := F) m).IsStorable where
  st q d c := match q with | 0 => (inferInstance : BI.Storable (upEmb : UEmb _ 𝕄) (bigSep Finset.univ fun i : Fin (grid0.bound 1) => given m d (coordsV c i)))
  dn q d c := match q with | 0 => (inferInstance : BI.Storable (upEmb : UEmb _ 𝕄) (bigSep Finset.univ fun i : Fin (grid0.bound 1) => handed m d (coordsV c i)))
  go q d c i := match q with | 0 => (inferInstance : BI.Storable (upEmb : UEmb _ 𝕄) (given m d (coordsV c i)))
  td q d c i := match q with | 0 => (inferInstance : BI.Storable (upEmb : UEmb _ 𝕄) (handed m d (coordsV c i)))

/-- The spike indices name columns of the weights. -/
def PreOK : Prop := ∀ (d : Dev nD) (j : S1024x64.Idx), (m (iLoc d) j : BitVec 32).toNat < 1024

theorem defs₀_vector (c : Fin τ.nSC) (s : Fin τ.nSub) :
    defs₀ (F := F) (.scVector c s) 0 ()
      = SparseCore.onTile hcore0 hsub0 (fun c s => cc0__build_counts_body (coordsV c s)
          (Memref.whole main_arg1_scv) (Memref.isWhole_whole _) (Memref.whole main_arg2_scv) (Memref.isWhole_whole _)
          (Memref.whole main_v0_scv) (Memref.isWhole_whole _) (Memref.whole cc0_scratch0) (Memref.isWhole_whole _)
          (Memref.whole cc0_scratch1) (Memref.isWhole_whole _) (Memref.whole cc0_scratch2) (Memref.isWhole_whole _)
          cc0_scoped0 cc0_scoped1 cc0_scoped2) ⟨⟩ c s := rfl

omit [FloatOps F] in
/-- The waits a task adds are of no call, so in particular of none but this one. -/
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  refine sep_mono_right (sep_mono_right (sep_mono_right ?_))
  iintro ⟨%W', %h, HO⟩
  iexists W'
  isplitr; swap; · iexact HO
  ipureintro
  intro p hp
  rcases h p hp with h | h
  · exact .inl h
  · exact .inr (.inl h)

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (m (iLoc d)) (m (nLoc d)) (m (aLoc d)) (hpre d) O W hO).trans
    (wp_mono frame _ _ fun _ => waits_weaken)

theorem vecSplit : (K (F := F)).VecSplit' (P m) 0 := by
  intro d c
  show (bigSep Finset.univ fun i : Fin (grid0.bound 1) => given m d (coordsV c i)) ⊢ |={Set.univ}=> iprop(
      (bigSep Finset.univ fun i : Fin (grid0.bound 1) => given m d (coordsV c i))
      ∗ ((bigSep Finset.univ fun i : Fin (grid0.bound 1) => handed m d (coordsV c i))
          -∗ bigSep Finset.univ fun i : Fin (grid0.bound 1) => handed m d (coordsV c i)))
  iintro H; imodintro
  isplitl [H]; · iexact H
  iintro H; iexact H

/-! ## The rows split and join -/

omit [FloatOps F] in
/-- An array cut along its 1024 rows into the 32 tasks' rows is the whole of it. -/
theorem split_rows {ℓ : Loc nD τ sig} (S : grid0.Coords → Finset (Idx ℓ)) (row : Idx ℓ → ℕ) (hrow : ∀ j, row j < 1024)
    (hS : ∀ L j, j ∈ S L ↔ base L ≤ row j ∧ row j < base L + 32) (f : Buf (Elt F) ℓ) :
    (ℓ ↦{fullShare} f : sProp 𝕄)
      = bigSep Finset.univ fun c : Fin (grid0.bound 0) => bigSep Finset.univ fun s : Fin (grid0.bound 1) => ℓ ↦[S (coordsV c s)]{fullShare} f := by
  have hb : ∀ c s, base (coordsV c s) = 64 * s.val + 32 * c.val := fun _ _ => rfl
  have h0 : ∀ c : Fin (grid0.bound 0), c.val < 2 := fun c => c.isLt
  have h1 : ∀ s : Fin (grid0.bound 1), s.val < 16 := fun s => s.isLt
  have inner : ∀ c, ∀ s ∈ (Finset.univ : Finset (Fin (grid0.bound 1))), ∀ s' ∈ (Finset.univ : Finset (Fin (grid0.bound 1))), s ≠ s' →
      Disjoint (S (coordsV c s)) (S (coordsV c s')) := fun c s _ s' _ hne => Finset.disjoint_left.2 fun j hj hj' => hne (Fin.ext (by
    have e := (hS _ j).1 hj; have e' := (hS _ j).1 hj'
    rw [hb] at e e'; omega))
  have outer : ∀ c ∈ (Finset.univ : Finset (Fin (grid0.bound 0))), ∀ c' ∈ (Finset.univ : Finset (Fin (grid0.bound 0))), c ≠ c' →
      Disjoint (Finset.univ.biUnion fun s => S (coordsV c s)) (Finset.univ.biUnion fun s => S (coordsV c' s)) :=
    fun c _ c' _ hne => Finset.disjoint_left.2 fun j hj hj' => hne (Fin.ext (by
      obtain ⟨s, -, hs⟩ := Finset.mem_biUnion.1 hj
      obtain ⟨s', -, hs'⟩ := Finset.mem_biUnion.1 hj'
      have e := (hS _ j).1 hs; have e' := (hS _ j).1 hs'
      have := h0 c; have := h0 c'
      rw [hb] at e e'; omega))
  have cover : (Finset.univ : Finset (Idx ℓ)) = Finset.univ.biUnion fun c => Finset.univ.biUnion fun s => S (coordsV c s) := by
    refine (Finset.eq_univ_iff_forall.2 fun j => ?_).symm
    have := hrow j
    refine Finset.mem_biUnion.2 ⟨(⟨row j / 32 % 2, Nat.mod_lt _ (by decide)⟩ : Fin 2), Finset.mem_univ _,
      Finset.mem_biUnion.2 ⟨(⟨row j / 64, by omega⟩ : Fin 16), Finset.mem_univ _, (hS _ j).2 ?_⟩⟩
    show 64 * (row j / 64) + 32 * (row j / 32 % 2) ≤ row j ∧ row j < 64 * (row j / 64) + 32 * (row j / 32 % 2) + 32
    omega
  rw [cover, pointsTo_biUnion Finset.univ (ℓ := ℓ) _ outer]
  exact bigSep_congr fun c _ => pointsTo_biUnion Finset.univ (ℓ := ℓ) _ (inner c)

omit [FloatOps F] in
theorem mem_iRow (L : grid0.Coords) (j : S1024x64.Idx) : j ∈ (iRow L).view.set ↔ base L ≤ (j 0).val ∧ (j 0).val < base L + 32 := by
  rw [show (iRow L).view.set = (Rect.unit (s := S1024x64) (k0_off1 L) S32x64.size (k0_off1_inb L)).set from View.set_slice_whole _ _, Rect.mem_set_unit, k0_off1_eq]
  have h1 : (j 1).val < 64 := (j 1).isLt
  refine ⟨fun h => h 0, fun h a => ?_⟩
  match a with
  | 0 => exact h
  | 1 => exact ⟨Nat.zero_le _, by show (j 1).val < 0 + 64; omega⟩

omit [FloatOps F] in
theorem mem_nRow (L : grid0.Coords) (j : S1024.Idx) : j ∈ (nRow L).view.set ↔ base L ≤ (j 0).val ∧ (j 0).val < base L + 32 := by
  rw [show (nRow L).view.set = (Rect.unit (s := S1024) (k0_off2 L) S32.size (k0_off2_inb L)).set from View.set_slice_whole _ _, Rect.mem_set_unit, k0_off2_eq]
  refine ⟨fun h => h 0, fun h a => ?_⟩
  match a with
  | 0 => exact h

omit [FloatOps F] in
theorem mem_aRow (L : grid0.Coords) (j : S1024x1024.Idx) : j ∈ (aRow L).view.set ↔ base L ≤ (j 0).val ∧ (j 0).val < base L + 32 := by
  rw [show (aRow L).view.set = (Rect.unit (s := S1024x1024) (k0_off67 L) S32x1024.size (k0_off67_inb L)).set from View.set_slice_whole _ _, Rect.mem_set_unit, k0_off67_eq]
  have h1 : (j 1).val < 1024 := (j 1).isLt
  refine ⟨fun h => h 0, fun h a => ?_⟩
  match a with
  | 0 => exact h
  | 1 => exact ⟨Nat.zero_le _, by show (j 1).val < 0 + 1024; omega⟩

omit [FloatOps F] in
theorem whole_pieces (d : Dev nD) (fi : Buf (Elt F) (iLoc d)) (fn : Buf (Elt F) (nLoc d)) (fa : Buf (Elt F) (aLoc d)) :
    (bigSep Finset.univ fun c : Fin (grid0.bound 0) => bigSep Finset.univ fun s : Fin (grid0.bound 1) =>
        (iprop(iPts d (coordsV c s) fi ∗ nPts d (coordsV c s) fn ∗ aPts d (coordsV c s) fa) : sProp 𝕄))
      = iprop((iLoc d ↦{fullShare} fi) ∗ (nLoc d ↦{fullShare} fn) ∗ (aLoc d ↦{fullShare} fa)) := by
  rw [split_rows (F := F) (ℓ := iLoc d) (fun L => (iRow L).view.set) (fun j : S1024x64.Idx => (j 0).val) (fun j => (j 0).isLt) mem_iRow fi,
    split_rows (F := F) (ℓ := nLoc d) (fun L => (nRow L).view.set) (fun j : S1024.Idx => (j 0).val) (fun j => (j 0).isLt) mem_nRow fn,
    split_rows (F := F) (ℓ := aLoc d) (fun L => (aRow L).view.set) (fun j : S1024x1024.Idx => (j 0).val) (fun j => (j 0).isLt) mem_aRow fa,
    ← bigSep_sep', ← bigSep_sep']
  exact bigSep_congr fun c _ => by rw [bigSep_sep', bigSep_sep']

theorem st0_eq (d : Dev nD) : (bigSep Finset.univ fun c : Fin ((K (F := F)).nCore 0) => (P m).st 0 d c)
    = iprop((iLoc d ↦{fullShare} m (iLoc d)) ∗ (nLoc d ↦{fullShare} m (nLoc d)) ∗ (aLoc d ↦{fullShare} m (aLoc d))) :=
  whole_pieces d _ _ _
theorem dn0_eq (d : Dev nD) : (bigSep Finset.univ fun c : Fin ((K (F := F)).nCore 0) => (P m).dn 0 d c)
    = iprop((iLoc d ↦{fullShare} m (iLoc d)) ∗ (nLoc d ↦{fullShare} m (nLoc d)) ∗ (aLoc d ↦{fullShare} counts (F := F) (m (iLoc d)) (m (nLoc d)))) :=
  whole_pieces d _ _ _

end Cert.Proof.Spikes

end
-- ==== Proof.Matmul.lean ====
/-
  The TensorCore's kernel: one grid point multiplies 256 rows of the tallies with the narrowed weights; over the four
  points the whole product is written.
-/
module

public import proofs.«01_k».proof.Proof.Base
public import proofs.«01_k».proof.Proof.Gen.KernelIdeal.Launch
public import proofs.«01_k».proof.Proof.Gen.KernelIdeal.Points
public import Idealize.ShloMosaic.Lib.Pipeline.FrameBody

@[expose] public section

noncomputable section

namespace Cert.Proof.Spikes

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type} [FloatOps F]

local notation "𝕄" => MT nD τ sig (HIx 1) (Elt F) ℕ UU ℕ

/-! ## The kernel at one grid point -/

/-- The block of 256 rows number `t`. -/
def rows (t : ℕ) (A : S1024x1024.Idx → F .f32) : S256x1024.Idx → F .f32 :=
  fun x => A (ix2 (Fin.ofNat 1024 (256 * t + (x 0).val)) (x 1))

/-- The whole product: row `j` comes from the block of rows it lies in. -/
def product (A : S1024x1024.Idx → F .f32) (B : S1024x1024.Idx → F .bf16) : S1024x1024.Idx → F .f32 :=
  fun j => k1_pay1 (F := F) (rows ((j 0).val / 256) A) B (ix2 (Fin.ofNat 256 (j 0).val) (j 1))

theorem matmul_body (c : Dev nD) (i : grid1.Coords) (M0 : Memref sig .tc .vmem S256x1024 .f32) (h0 : M0.IsWhole)
    (M1 : Memref sig .tc .vmem S1024x1024 .bf16) (h1 : M1.IsWhole) (M2 : Memref sig .tc .vmem S256x1024 .f32) (h2 : M2.IsWhole)
    (X0 : S256x1024.Idx → F .f32) (X1 : S1024x1024.Idx → F .bf16) (X2 : S256x1024.Idx → F .f32) :
    (iprop(owns (c.tc : Thread nD τ) M0 fullShare X0 ∗ owns (c.tc : Thread nD τ) M1 fullShare X1 ∗ owns (c.tc : Thread nD τ) M2 fullShare X2) : sProp 𝕄)
      ⊢ wp frame (wpE (defs₀ (F := F)) 𝒱₀ (c.tc : Thread nD τ) none) Set.univ (cc1__matmul_body i M0 h0 M1 h1 M2 h2) fun _ =>
        iprop(owns (c.tc : Thread nD τ) M0 fullShare X0 ∗ owns (c.tc : Thread nD τ) M1 fullShare X1 ∗ owns (c.tc : Thread nD τ) M2 fullShare (k1_pay1 (F := F) X0 X1)) := by
  rw [cc1__matmul_body_eq_skeleton]
  unfold cc1__matmul_body_skel owns
  rw [h0.set_eq_univ, h1.set_eq_univ, h2.set_eq_univ]
  iintro ⟨⟨%f0, %e0, H0⟩, ⟨%f1, %e1, H1⟩, ⟨%f2, -, H2⟩⟩
  sl_exec!
  sl_step
  isplitl [H0]; · iexists f0; isplitr; (· ipureintro; exact e0); iexact H0
  isplitl [H1]; · iexists f1; isplitr; (· ipureintro; exact e1); iexact H1
  iexists _; isplitr; swap; (· iexact H2)
  ipureintro
  have hz : (![0, 0] : Fin 2 → ℕ) = fun _ => 0 := funext fun a => by fin_cases a <;> rfl
  rw [View.read_writes_junk_eq_canon]
  show View.canon ([⟨Rect.unit (s := S256x1024) ![0, 0] S256x1024.size inb_S256x1024_S256x1024_0_0,
      k1_pay1 (F := F)
        (View.readAt (Elt F) M0.view (Rect.unit (s := S256x1024) ![0, 0] S256x1024.size inb_S256x1024_S256x1024_0_0).toLoadRect f0)
        (View.readAt (Elt F) M1.view (Rect.unit (s := S1024x1024) ![0, 0] S1024x1024.size inb_S1024x1024_S1024x1024_0_0).toLoadRect f1)⟩] :
      List (View.Piece (Elt F) S256x1024 .f32)) = _
  rw [View.canon_unit_zero hz, View.readAt_eq_ld, View.readAt_eq_ld, e0, e1, View.ld_unit_zero hz, View.ld_unit_zero hz]

/-! ## The pipeline's proof data -/

section Region

variable (c : Dev nD) (a : Buf (Elt F) (aLoc c)) (b : Buf (Elt F) (bLoc c)) (r : Buf (Elt F) (rLoc c))

/-- What the region finds in the three arrays. -/
def found : (w : Fin cfg1.W) → Buf (Elt F) (((cfg1.win w).arr.view.loc (c.tc : Thread nD τ)))
  | ⟨0, _⟩ => a
  | ⟨1, _⟩ => b
  | ⟨2, _⟩ => r

/-- An input window's block of its array. -/
abbrev blkIn0 (t : Fin cfg1.N) : S256x1024.Idx → F .f32 := ((cfg1.win 0).blk t).view.read (Elt F) a
abbrev blkIn1 (t : Fin cfg1.N) : S1024x1024.Idx → F .bf16 := ((cfg1.win 1).blk t).view.read (Elt F) b

/-- The pairs a wait of the pipeline may record, or an earlier one has. -/
def recd : Set (SemLoc sig × HIx 1) := {p | (K (F := F)).lev ((c.tc : Thread nD τ), p.1) p.2 ≤ 8}

/-- Nothing is carried from point to point; each point leaves its input blocks in place and its product. -/
def dat : Pipeline.Dat τ (Elt F) (HIx 1) ℕ UU ℕ cfg1 c where
  A := found c a b r
  after w t := match w with
    | ⟨0, _⟩ => blkIn0 c a t
    | ⟨1, _⟩ => blkIn1 c b t
    | ⟨2, _⟩ => k1_pay1 (F := F) (blkIn0 c a t) (blkIn1 c b t)
  Φ _ := iprop(emp)
  q _ := fullShare
  owed _ := 0
  recorded _ := recd (F := F) c

theorem before_0 (t : Fin cfg1.N) (x) : (dat c a b r).before 0 t x = blkIn0 c a t :=
  (Pipeline.Dat.before_in_eq_fetched (dat c a b r) 0 rfl (fun _ => rfl) (fun _ _ _ => rfl) (fun _ => by dsimp only [dat]; rfl) t x).trans rfl
theorem before_1 (t : Fin cfg1.N) (x) : (dat c a b r).before 1 t x = blkIn1 c b t :=
  (Pipeline.Dat.before_in_eq_fetched (dat c a b r) 1 rfl (fun _ => rfl) (fun _ _ _ => rfl) (fun _ => by dsimp only [dat]; rfl) t x).trans rfl

theorem body_obligation : Pipeline.BodyObligation (dat c a b r) (defs₀ (F := F)) 𝒱₀ none Set.univ := fun t => by
  rw [bigSep_W1, bigSep_W1]
  simp only
  rw [show (dat c a b r).Φ t.castSucc = iprop(emp) from rfl, show (dat c a b r).Φ t.succ = iprop(emp) from rfl,
    show (dat c a b r).owesAt none t.succ = (dat c a b r).owesAt none t.castSucc from rfl]
  iintro ⟨HΦ, HO, ⟨%x0, H0⟩, ⟨%x1, H1⟩, ⟨%x2, H2⟩⟩
  rw [before_0, before_1]
  iapply (wp_wand _ _ _) $$ [H0 H1 H2]
  · iapply (matmul_body c (grid1.coords t) _ (hstage1_0 ((cfg1.slots t 0).cast nbuf1_0)) _ (hstage1_1 ((cfg1.slots t 1).cast nbuf1_1)) _
      (hstage1_2 ((cfg1.slots t 2).cast nbuf1_2)) (blkIn0 c a t) (blkIn1 c b t) _)
    isplitl [H0]; · iexact H0
    isplitl [H1]; · iexact H1
    iexact H2
  iintro %_ ⟨H0, H1, H2⟩
  isplitl [HΦ]; · iexact HΦ
  isplitl [HO]; · iexact HO
  isplitl [H0]; · iexact H0
  isplitl [H1]; · iexact H1
  iexact H2

/-! ## What the four points leave -/

omit [FloatOps F] in
theorem index_0 : ∀ t : Fin cfg1.N, win1_0.index t (0 : Fin 2) = t.val ∧ win1_0.index t (1 : Fin 2) = 0 :=
  (by decide +kernel : ∀ t : Fin grid1.N, _)
omit [FloatOps F] in
theorem index_1 : ∀ t : Fin cfg1.N, win1_1.index t (0 : Fin 2) = 0 ∧ win1_1.index t (1 : Fin 2) = 0 :=
  (by decide +kernel : ∀ t : Fin grid1.N, _)
omit [FloatOps F] in
theorem index_2 : ∀ t : Fin cfg1.N, win1_2.index t (0 : Fin 2) = t.val ∧ win1_2.index t (1 : Fin 2) = 0 :=
  (by decide +kernel : ∀ t : Fin grid1.N, _)

omit [FloatOps F] in
theorem emb_0 (t : Fin cfg1.N) (y : S256x1024.Idx) : ((cfg1.win 0).blk t).view.emb y = ix2 (Fin.ofNat 1024 (256 * t.val + (y 0).val)) (y 1) := by
  obtain ⟨e0, e1⟩ := index_0 t
  have hy : (y 0).val < 256 := (y 0).isLt
  have ht : t.val < 4 := lt_of_lt_of_eq t.isLt N_1
  funext q; apply Fin.ext
  match q with
  | ⟨0, _⟩ => show win1_0.index t (0 : Fin 2) * 256 + 1 * (y 0).val = (256 * t.val + (y 0).val) % 1024; omega
  | ⟨1, _⟩ => show win1_0.index t (1 : Fin 2) * 1024 + 1 * (y 1).val = (y 1).val; omega

omit [FloatOps F] in
theorem emb_1 (t : Fin cfg1.N) (y : S1024x1024.Idx) : ((cfg1.win 1).blk t).view.emb y = y := by
  obtain ⟨e0, e1⟩ := index_1 t
  funext q; apply Fin.ext
  match q with
  | ⟨0, _⟩ => show win1_1.index t (0 : Fin 2) * 1024 + 1 * (y 0).val = (y 0).val; omega
  | ⟨1, _⟩ => show win1_1.index t (1 : Fin 2) * 1024 + 1 * (y 1).val = (y 1).val; omega

omit [FloatOps F] in
theorem emb_2 (t : Fin cfg1.N) (y : S256x1024.Idx) :
    ((((cfg1.win 2).blk t).view.emb y : S1024x1024.Idx) 0).val = 256 * t.val + (y 0).val
      ∧ ((((cfg1.win 2).blk t).view.emb y : S1024x1024.Idx) 1).val = (y 1).val := by
  obtain ⟨e0, e1⟩ := index_2 t
  refine ⟨?_, ?_⟩
  · show win1_2.index t (0 : Fin 2) * 256 + 1 * (y 0).val = _; omega
  · show win1_2.index t (1 : Fin 2) * 1024 + 1 * (y 1).val = _; omega

omit [FloatOps F] in
theorem blkIn0_eq (t : Fin cfg1.N) : blkIn0 c a t = rows t.val a := by
  funext y; show a (((cfg1.win 0).blk t).view.emb y) = _; rw [emb_0]; rfl
omit [FloatOps F] in
theorem blkIn1_eq (t : Fin cfg1.N) : blkIn1 c b t = b := by
  funext y; show b (((cfg1.win 1).blk t).view.emb y) = _; rw [emb_1]

/-- A point's block of the product is what the point computes. -/
theorem product_block (A : S1024x1024.Idx → F .f32) (B : S1024x1024.Idx → F .bf16) (t : ℕ) (y : S256x1024.Idx) (j : S1024x1024.Idx)
    (e0 : (j 0).val = 256 * t + (y 0).val) (e1 : (j 1).val = (y 1).val) : product A B j = k1_pay1 (F := F) (rows t A) B y := by
  have hy : (y 0).val < 256 := (y 0).isLt
  unfold product
  rw [show (j 0).val / 256 = t by omega]
  refine congrArg _ (funext fun q => Fin.ext ?_)
  match q with
  | ⟨0, _⟩ => show (j 0).val % 256 = (y 0).val; omega
  | ⟨1, _⟩ => exact e1

theorem flushed_2 (t : Fin cfg1.N) : (dat c a b r).flushed 2 t = ((cfg1.win 2).blk t).view.read (Elt F) (product (F := F) a b) := by
  funext y
  obtain ⟨e0, e1⟩ := emb_2 t y
  show k1_pay1 (F := F) (blkIn0 c a t) (blkIn1 c b t) y = product (F := F) a b (((cfg1.win 2).blk t).view.emb y)
  rw [blkIn0_eq, blkIn1_eq, product_block a b t.val y _ e0 e1]

omit [FloatOps F] in
theorem covered_2 (j : S1024x1024.Idx) : ∃ t : Fin cfg1.N, (cfg1.win 2).flush t = true ∧ j ∈ ((cfg1.win 2).blk t).view.set := by
  have hj : (j 0).val < 1024 := (j 0).isLt
  let t : Fin cfg1.N := ⟨(j 0).val / 256, by rw [show cfg1.N = 4 from N_1]; omega⟩
  let y : S256x1024.Idx := ix2 (Fin.ofNat 256 (j 0).val) (j 1)
  obtain ⟨e0, e1⟩ := emb_2 t y
  refine ⟨t, flush1_2 t, ?_⟩
  have h := ((cfg1.win 2).blk t).view.emb_mem_set y
  rwa [show ((cfg1.win 2).blk t).view.emb y = j from funext fun q => Fin.ext (by
    match q with
    | ⟨0, _⟩ => exact e0.trans (by show 256 * ((j 0).val / 256) + (j 0).val % 256 = (j 0).val; omega)
    | ⟨1, _⟩ => exact e1)] at h

theorem final_2 : (dat c a b r).arrAt 2 cfg1.N = product (F := F) a b :=
  (dat c a b r).arrAt_eq_of_cover 2 (product (F := F) a b) (fun t _ => flushed_2 c a b r t) covered_2

end Region

end Cert.Proof.Spikes

end
-- ==== Proof.Region.lean ====
/-
  The TensorCore's kernel as a region of the host program: entered with the tallies, the narrowed weights and the
  result's array, left with the product in the result's array.
-/
module

public import proofs.«01_k».proof.Proof.Matmul
public import Idealize.ShloMosaic.Lib.Pipeline.Regions

@[expose] public section

noncomputable section

namespace Cert.Proof.Spikes

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type} [FloatOps F]

local notation "𝕄" => MT nD τ sig (HIx 1) (Elt F) ℕ UU ℕ

/-- The pipeline has no table, so there is one choice of them. -/
def adm : (p : Fin 1) → (pcfgs (F := F) p).Adm := fun q => (cfgs q).toPCfg_adm

theorem cells_inj : Function.Injective (Pipeline.cellOf (nD := nD) (τ := τ) (Pipeline.pin (pcfgs (F := F)) adm)) := cellOf_inj

/-- What the launch deals the pipeline on a device: its cells' ghost state and its transfers' tokens. -/
abbrev dealt (d : Dev nD) : sProp 𝕄 :=
  iprop(Pipeline.cellsGhost (Pipeline.pin (pcfgs (F := F)) adm) EP 0 d ∗ Pipeline.toksInit (Pipeline.pin (pcfgs (F := F)) adm) EP 0 d)

section Region

variable (a : (c : Dev nD) → Buf (Elt F) (aLoc c)) (b : (c : Dev nD) → Buf (Elt F) (bLoc c)) (r : (c : Dev nD) → Buf (Elt F) (rLoc c))

def dats : (p : Fin 1) → (c : Dev nD) → Pipeline.Dat τ (Elt F) (HIx 1) ℕ UU ℕ (Pipeline.pin (pcfgs (F := F)) adm p) c
  | ⟨0, _⟩ => fun c => dat c (a c) (b c) (r c)

/-- The core's account of its waits: nothing owed, and every wait so far at a level the next call admits. -/
abbrev settled (c : Dev nD) : sProp 𝕄 :=
  iprop(∃ W, ⌜(K (F := F)).WBelow (SparseCore.T c) W 8⌝ ∗ owes (SparseCore.T c) (0 : CellTallies nD τ sig (HIx 1)) W)

theorem arrays_chain (c : Dev nD) (G : (w : Fin cfg1.W) → Buf (Elt F) ((cfg1.win w).arr.view.loc (c.tc : Thread nD τ))) :
    (dats a b r 0 c).arrays G = iprop((aLoc c ↦{fullShare} G 0) ∗ (bLoc c ↦{fullShare} G 1) ∗ (rLoc c ↦{fullShare} G 2)) := by
  rw [Pipeline.arrays_eq (Pipeline.pin (pcfgs (F := F)) adm) (dats a b r) 0 c launch1.arr_whole ((dats a b r 0 c).share_full fun _ => rfl) G]
  exact bigSep_W1 _

set_option backward.isDefEq.respectTransparency.types false in
def region : Pipeline.RegionSeg (pcfgs (F := F)) adm (dats a b r) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation c (a c) (b c) (r c)).loose
  hwaits := Pipeline.hwaits_of_owed_zero _ _ _ _ (K (F := F)).L (K (F := F)).lev 0 fun _ _ => rfl
  pre c := iprop((aLoc c ↦{fullShare} a c) ∗ (bLoc c ↦{fullShare} b c) ∗ (rLoc c ↦{fullShare} r c) ∗ settled (F := F) c)
  post c := iprop((aLoc c ↦{fullShare} a c) ∗ (bLoc c ↦{fullShare} b c) ∗ (rLoc c ↦{fullShare} product (F := F) (a c) (b c)) ∗ settled (F := F) c)
  X _ := BI.emp
  Y _ := BI.emp
  Z _ := BI.emp
  hentry c := by
    rw [Pipeline.ownSems0_none, arrays_chain]
    iintro ⟨⟨Ha, Hb, Hr, ⟨%W, %hW, HO⟩⟩, -, -⟩
    imodintro
    isplitl [Ha Hb Hr]
    · isplitl [Ha]; · iexact Ha
      isplitl [Hb]; · iexact Hb
      iexact Hr
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iempintro
  hin c := by
    rw [show (dats a b r 0 c).Φ 0 = iprop(emp) from rfl]
    iintro -; iempintro
  hout c := by
    rw [Pipeline.ownSems0_none, show Pipeline.scopedRest (Ix := HIx 1) (Name := ℕ) (U := UU) (Lvl := ℕ) (Val := Elt F)
      (Pipeline.pin (pcfgs (F := F)) adm 0).spec c = BI.emp from scopedRest1_eq c]
    iintro -
    isplitr; · iempintro
    isplitr; · iempintro
    iempintro
  hexit c := by
    rw [arrays_chain, show (dats a b r 0 c).arrAt 0 (Pipeline.pin (pcfgs (F := F)) adm 0).N = a c from (dats a b r 0 c).arrAt_in 0 rfl _,
      show (dats a b r 0 c).arrAt 1 (Pipeline.pin (pcfgs (F := F)) adm 0).N = b c from (dats a b r 0 c).arrAt_in 1 rfl _,
      show (dats a b r 0 c).arrAt 2 (Pipeline.pin (pcfgs (F := F)) adm 0).N = product (F := F) (a c) (b c) from final_2 c (a c) (b c) (r c)]
    iintro ⟨⟨Ha, Hb, Hr⟩, HO, -, -⟩
    imodintro
    isplitl [Ha]; · iexact Ha
    isplitl [Hb]; · iexact Hb
    isplitl [Hr]; · iexact Hr
    unfold Pipeline.Dat.owesAt Pipeline.owesWithin
    icases HO with ⟨%W, %hW, HO⟩; iexists W; isplitr
    · ipureintro
      intro p hp
      rcases hW hp with h | ⟨w, s, rfl⟩
      · exact h
      · exact Nat.zero_le _
    iexact HO

theorem region_pre (c : Dev nD) : (region a b r).pre c
    = iprop((aLoc c ↦{fullShare} a c) ∗ (bLoc c ↦{fullShare} b c) ∗ (rLoc c ↦{fullShare} r c) ∗ settled (F := F) c) := rfl
theorem region_post (c : Dev nD) : (region a b r).post c
    = iprop((aLoc c ↦{fullShare} a c) ∗ (bLoc c ↦{fullShare} b c) ∗ (rLoc c ↦{fullShare} product (F := F) (a c) (b c)) ∗ settled (F := F) c) := rfl

end Region

end Cert.Proof.Spikes

end
-- ==== Proof.Main.lean ====
/-
  The run of the whole program: the SparseCore's tallies, the weights narrowed, the TensorCore's product; what is left
  in the arrays and on the semaphores.
-/
module

public import proofs.«01_k».proof.Proof.Launch
public import proofs.«01_k».proof.Proof.Region

@[expose] public section

noncomputable section

namespace Cert.Proof.Spikes

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type} [FloatOps F]

local notation "𝕄" => MT nD τ sig (HIx 1) (Elt F) ℕ UU ℕ

variable (m : (ℓ : Loc nD τ sig) → Buf (Elt F) ℓ) (ρ : Dev nD → PrngReg)

/-! ## What the arrays hold along the way -/

/-- The tallies, the narrowed weights and the result, of the launch memory. -/
abbrev tallies (d : Dev nD) : Buf (Elt F) (aLoc d) := counts (F := F) (m (iLoc d)) (m (nLoc d))
abbrev narrowed (d : Dev nD) : Buf (Elt F) (bLoc d) :=
  (truncf .bf16 (m (wLoc d) : S1024x1024.Idx → F .f32) bitsLt_bf16_f32 : S1024x1024.Idx → F .bf16)
abbrev result (d : Dev nD) : Buf (Elt F) (rLoc d) := product (F := F) (tallies m d) (narrowed m d)

/-! ## The launch's ghost state -/

def u₀ : UU := (initOf (K (F := F)).hsCells (K (F := F)).hsToks,
  (initOf (Pipeline.cells (Pipeline.pin (pcfgs (F := F)) adm) cells_inj) (Pipeline.launchToks (Pipeline.pin (pcfgs (F := F)) adm) cells_inj), 1))

omit [FloatOps F] in
theorem own_parts (x : UH) (y : UP) : (ownU ((x, (y, 1)) : UU) : sProp 𝕄) ⊢ iprop(BI.own (EH x) ∗ BI.own (EP y)) :=
  BI.own_op_elim ((uEmb (nD := nD) (sig := sig) (Ix := HIx 1) (Val := Elt F) (Name := ℕ) (U := UU) (Lvl := ℕ)).toEmb.op_of_mem
    (Prod.mk_mem_op (URA.mem_op_one x) (URA.mem_one_op (y, (1 : Counters)))))

theorem hu₀ : (ownU (u₀ (F := F)) : sProp 𝕄)
    ⊢ |={Set.univ}=> iprop(BI.own (EH (initOf (K (F := F)).hsCells (K (F := F)).hsToks)) ∗ (bigSep Finset.univ fun d : Dev nD => dealt (F := F) d)
        ∗ bigSep Finset.univ fun thr : Thread nD τ => bigSep Finset.univ fun q : Fin 1 => (P m).x q thr) := by
  unfold u₀
  iintro Hu
  ihave H := (own_parts _ _) $$ Hu
  icases H with ⟨HH, HP⟩
  imod (Pipeline.fund_ghost (Pipeline.pin (pcfgs (F := F)) adm) EP cells_inj) $$ HP with ⟨Hg, Ht⟩
  imodintro
  isplitl [HH]; · iexact HH
  isplitl [Hg Ht]
  · unfold dealt
    rw [bigSep_sep']
    isplitl [Hg]
    · iapply (Entails.of_eq (bigSep_congr fun d _ => bigSep_univ_of_subsingleton (0 : Fin 1))) $$ Hg
    · iapply (Entails.of_eq (bigSep_congr fun d _ => bigSep_univ_of_subsingleton (0 : Fin 1))) $$ Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), show (bigSep Finset.univ fun _ : Thread nD τ => (iprop(emp) : sProp 𝕄)) = iprop(emp) from bigSep_emp_const _]
  iempintro

/-! ## The host program -/

omit [FloatOps F] in
theorem unscopedBufs_eq (d : Dev nD) (W : (b : Ref sig .tc) → Buf (Elt F) ((d.tc : Thread nD τ).loc b)) :
    (unscopedBufs d W : sProp 𝕄) = iprop((wLoc d ↦{fullShare} W main_arg0) ∗ (iLoc d ↦{fullShare} W main_arg1) ∗ (nLoc d ↦{fullShare} W main_arg2)
      ∗ (aLoc d ↦{fullShare} W main_v0) ∗ (bLoc d ↦{fullShare} W main_v1) ∗ (rLoc d ↦{fullShare} W main_v2)) := by
  unfold unscopedBufs
  rw [show (Finset.univ.filter fun b : Ref sig .tc => ¬ b.isScoped) = {main_arg0, main_arg1, main_arg2, main_v0, main_v1, main_v2} by decide,
    SparseCore.bigSep_insert' (by decide), SparseCore.bigSep_insert' (by decide), SparseCore.bigSep_insert' (by decide),
    SparseCore.bigSep_insert' (by decide), SparseCore.bigSep_insert' (by decide), bigSep_singleton]

/-- The narrowing of the weights, as the host runs it. -/
abbrev narrow : HloOp τ sig (Elt F) :=
  StableHlo.unary main_arg0 main_v1 ((truncf .bf16 · bitsLt_bf16_f32) : (⟨S1024x1024, .f32⟩ : BufTy).Contents (Elt F) → (⟨S1024x1024, .bf16⟩ : BufTy).Contents (Elt F))

abbrev wRef : DevRef τ sig := Proc.devRef .tc (main_arg0 : Ref sig .tc)
abbrev bRef : DevRef τ sig := Proc.devRef .tc (main_v1 : Ref sig .tc)

/-- The buffers of a device at launch, as a valuation. -/
abbrev launchV (d : Dev nD) : Valuation τ sig (Elt F) := fun b => m (d, b)

theorem narrow_sub : (narrow (F := F)).bufs ⊆ {wRef, bRef} := show ({wRef, bRef} : Finset (DevRef τ sig)) ⊆ {wRef, bRef} by decide

omit [FloatOps F] in
theorem held_pair (d : Dev nD) (V : Valuation τ sig (Elt F)) :
    (StableHlo.held (SparseCore.T d) {wRef, bRef} V : sProp 𝕄) = iprop((wLoc d ↦{fullShare} V wRef) ∗ (bLoc d ↦{fullShare} V bRef)) := by
  unfold StableHlo.held
  rw [SparseCore.bigSep_insert' (by decide), bigSep_singleton]

theorem held_narrowed (d : Dev nD) :
    (StableHlo.held (SparseCore.T d) {wRef, bRef} ((narrow (F := F)).result (launchV m d)) : sProp 𝕄)
      = iprop((wLoc d ↦{fullShare} m (wLoc d)) ∗ (bLoc d ↦{fullShare} narrowed m d)) := by
  rw [held_pair]
  rfl

/-- What the host program leaves: the three arguments as they were and the result. -/
abbrev FIN (d : Dev nD) : sProp 𝕄 :=
  iprop((wLoc d ↦{fullShare} m (wLoc d)) ∗ (iLoc d ↦{fullShare} m (iLoc d)) ∗ (nLoc d ↦{fullShare} m (nLoc d)) ∗ (rLoc d ↦{fullShare} result m d))

theorem settled_of_state (d : Dev nD) :
    ((K (F := F)).tcSt EH d ((0 : Fin 1).val + 1) : sProp 𝕄) ⊢ iprop(settled (F := F) d ∗ (settled (F := F) d -∗ (K (F := F)).tcSt EH d 1)) := by
  unfold SparseCore.Cfg.tcSt
  rw [show (0 : Fin 1).val + 1 = 1 from rfl, (K (F := F)).Otc_end d (le_refl 1)]
  iintro ⟨HO, Hrest⟩
  isplitl [HO]; · iexact HO
  iintro HO
  isplitl [HO]; · iexact HO
  iexact Hrest

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ dealt (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hw, Hi, Hn, Ha, Hv, Hr⟩, Hts, -⟩, ⟨Hg, Ht⟩⟩
  iapply ((K (F := F)).wp_run (D (F := F)) 𝒱 (EH := EH) (P := P m) κ d 0) $$ [Hst Hi Hn Ha Hb Hw Hv Hr Hts Hg Ht]
  isplitr; · iexact Hctx
  isplitl [Hst]; · iexact Hst
  isplitl [Hi Hn Ha]
  · rw [st0_eq]
    isplitl [Hi]; · iexact Hi
    isplitl [Hn]; · iexact Hn
    iexact Ha
  iintro ⟨Hst, Hdn⟩
  ihave Hdn' := (Entails.of_eq (dn0_eq m d)) $$ Hdn
  icases Hdn' with ⟨Hi, Hn, Ha⟩
  -- the weights narrowed
  iapply (StableHlo.wp_hlo_within 𝒱 (SparseCore.T d) none Set.univ (op := narrow) (S := {wRef, bRef}) narrow_sub (V := launchV m d)) $$ [Hb Hw Hv]
  · isplitl [Hb]; · iexact Hb
    rw [held_pair]
    isplitl [Hw]; · iexact Hw
    iexact Hv
  iintro ⟨Hb, Hheld⟩
  ihave Hh := (Entails.of_eq (held_narrowed m d)) $$ Hheld
  icases Hh with ⟨Hw, Hv⟩
  rw [wp_ret]; imodintro
  -- the product
  ihave Hlev := (SparseCore.Cfg.ctx_levAts κ) $$ Hctx
  ihave Hst' := (settled_of_state d) $$ Hst
  icases Hst' with ⟨HO, Hback⟩
  iapply ((K (F := F)).wp_liftProg (D (F := F)) 𝒱 (SparseCore.T d) Set.univ none (Prog.lift (.customCall (Pipeline.entry 0) ())) _)
  iapply ((region (tallies m) (narrowed m) (fun c => m (rLoc c))).wp (pcfgs (F := F)) adm (dats (tallies m) (narrowed m) (fun c => m (rLoc c))) none cells_inj EP
    defs₀ 𝒱₀ (K (F := F)).L (K (F := F)).lev d none (fun _ h => nomatch h) _ _)
  isplitr [Hb Ha Hv Hr HO Hlev Hg Ht]
  · rw [region_post]
    iintro ⟨Hb, Ha, Hv, Hr, HO⟩
    rw [wp_ret]; imodintro; imodintro
    ihave Hst := Hback $$ HO
    isplitl [Hst]; · iexact Hst
    isplitr [Hb Hts]
    · isplitl [Hw]; · iexact Hw
      isplitl [Hi]; · iexact Hi
      isplitl [Hn]; · iexact Hn
      iexact Hr
    isplitl [Hb] <;> iassumption
  isplitl [Hb]; · iexact Hb
  isplitl [Ha Hv Hr HO]
  · rw [region_pre]
    isplitl [Ha]; · iexact Ha
    isplitl [Hv]; · iexact Hv
    isplitl [Hr]; · iexact Hr
    iexact HO
  isplitl [Hlev]; · iexact Hlev
  isplitl [Hg] <;> iassumption

/-! ## The memory at the end -/

def fq (d : Dev nD) (s' : Phys nD τ sig (Elt F)) : Prop :=
  s'.mem.mem (wLoc d) = m (wLoc d) ∧ s'.mem.mem (iLoc d) = m (iLoc d) ∧ s'.mem.mem (nLoc d) = m (nLoc d) ∧ s'.mem.mem (rLoc d) = result m d

omit [FloatOps F] in
theorem reads (s' : Phys nD τ sig (Elt F)) (ℓ : Loc nD τ sig) (f : Buf (Elt F) ℓ) :
    iprop(SI s' ∗ ℓ ↦{fullShare} f) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  isplitr; · ipureintro; exact funext fun i => h i (Finset.mem_univ i)
  iexact HSI

theorem hfin (d : Dev nD) (s' : Phys nD τ sig (Elt F)) : iprop(FIN m d ∗ SI s') ⊢ (⌜fq m d s'⌝ : sProp 𝕄) := by
  iintro ⟨⟨Hw, Hi, Hn, Hr⟩, HSI⟩
  ihave H := (reads s' _ _) $$ [HSI Hw]
  · isplitl [HSI] <;> iassumption
  icases H with ⟨%hw, HSI⟩
  ihave H := (reads s' _ _) $$ [HSI Hi]
  · isplitl [HSI] <;> iassumption
  icases H with ⟨%hi, HSI⟩
  ihave H := (reads s' _ _) $$ [HSI Hn]
  · isplitl [HSI] <;> iassumption
  icases H with ⟨%hn, HSI⟩
  ihave H := (reads s' _ _) $$ [HSI Hr]
  · isplitl [HSI] <;> iassumption
  icases H with ⟨%hr, -⟩
  ipureintro; exact ⟨hw, hi, hn, hr⟩

/-! ## The run -/

def QC : PUnit × MemSt nD τ sig (Elt F) → Prop := fun r =>
  (∀ d : Dev nD, r.2.mem (wLoc d) = m (wLoc d) ∧ r.2.mem (iLoc d) = m (iLoc d) ∧ r.2.mem (nLoc d) = m (nLoc d) ∧ r.2.mem (rLoc d) = result m d)
    ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun d => dealt (F := F) d) (FIN m) (u₀ (F := F)) (sep_elim_left.trans (hu₀ m)) (hmain m ρ) (fq m) (hfin m) (QC m) (fun _ h hz => ⟨h, hz⟩)

end Cert.Proof.Spikes

end
-- ==== Proof.Frames.lean ====
/-
  The three frames: the arguments end as they began and every semaphore reads zero.
-/
module

public import proofs.«01_k».proof.Proof.Main
public import proofs.«01_k».proof.Proof.Gen.Kernel
public import proofs.«01_k».proof.Proof.Gen.Pre_ids_in_range
public import proofs.«01_k».proof.Proof.Gen.ReferenceIdeal.Run
public import Idealize.ShloMosaic.Lib.ReduceAll
public import Idealize.ShloMosaic.Lib.Quiescent
public import Idealize.ShloMosaic.Adequacy
public import Idealize.ShloMosaic.Init

@[expose] public section

noncomputable section

namespace Cert.Proof.Spikes

open Idealize.ShloMosaic Idealize.SL.Sem

/-! ## What the precondition gives -/

/-- A word between 0 and 1024 as a signed number is below 1024 as an unsigned one. -/
theorem small_of_bounds (v : BitVec 32) (e : IntOp.andi (IntOp.cmpi .sle 0#32 v) (IntOp.cmpi .slt v 1024#32) = 1#1) : v.toNat < 1024 := by
  have both : ∀ p q : Bool, IntOp.andi (BitVec.ofBool p) (BitVec.ofBool q) = 1#1 → p = true ∧ q = true := by decide
  obtain ⟨h0, h1⟩ := both ((0#32).sle v) (v.slt 1024#32) e
  rw [BitVec.sle_eq_decide, decide_eq_true_eq] at h0
  rw [BitVec.slt_eq_decide, decide_eq_true_eq] at h1
  have h2 : (1024#32).toInt = 1024 := by decide
  have h3 : (0#32).toInt = 0 := by decide
  rw [h2] at h1; rw [h3] at h0
  have := BitVec.toInt_eq_toNat_cond v
  have := v.isLt
  split at * <;> omega

/-- The precondition, all of whose comparisons hold, bounds every spike index. -/
theorem ids_small {F : FTy → Type} [FloatOps F] (w : FVec F Cert.Pre_ids_in_range.S1024x1024 .f32) (ids : IVec Cert.Pre_ids_in_range.S1024x64 32)
    (ns : IVec Cert.Pre_ids_in_range.S1024 32) (h : Cert.Pre_ids_in_range.fn w ids ns = fun _ => 1#1) (j : Cert.Pre_ids_in_range.S1024x64.Idx) :
    (ids j).toNat < 1024 := by
  have : Subsingleton Cert.Pre_ids_in_range.S_.Idx := ⟨fun _ _ => funext fun a => a.elim0⟩
  exact small_of_bounds _ (Host.reduce_andi_all _ _ _ _ (fun a => a.elim0) (congrFun h (fun a => a.elim0)) j)

theorem ok_bits (m : (ℓ : Loc Cert.Kernel.nD Cert.Kernel.τ Cert.Kernel.sig) → Buf (Elt Bits) ℓ) (h : Cert.Pre_Kernel m) : PreOK (F := Bits) m :=
  fun d j => ids_small _ _ _ (h d) j
theorem ok_ideal (m : (ℓ : Loc Cert.KernelIdeal.nD Cert.KernelIdeal.τ Cert.KernelIdeal.sig) → Buf (Elt Ideal) ℓ) (h : Cert.Pre_KernelIdeal m) : PreOK (F := Ideal) m :=
  fun d j => ids_small _ _ _ (h d) j

/-! ## The frames -/

/-- The printed bodies of the two programs agree, label by label. -/
theorem bodies_same : Cert.Kernel.defs₀ (F := Bits) = Cert.KernelIdeal.defs₀ (F := Bits) := by
  funext c l a
  match c, l, a with
  | .tc, ⟨0, _⟩, _ => rfl
  | .tc, ⟨1, _⟩, (_, _) => rfl
  | .scScalar _, ⟨0, _⟩, _ => rfl
  | .scScalar _, ⟨1, _⟩, _ => rfl
  | .scVector _ _, ⟨0, _⟩, _ => rfl
  | .scVector _ _, ⟨1, _⟩, _ => rfl

/-- So the two programs define the same labels. -/
theorem defs_same : Cert.Kernel.defs (F := Bits) = Cert.KernelIdeal.defs (F := Bits) := by
  show Cert.Kernel.sc.defs (Pipeline.defs Cert.Kernel.pcfgs Cert.Kernel.defs₀) = _
  rw [bodies_same]; rfl

theorem frame_kernel : Cert.quiescent_Kernel := fun m ρ hpre => by
  rw [defs_same]
  exact (θ_run Cert.KernelIdeal.defs _ _).mono (fun _ h => ⟨fun c => ⟨(h.1 c).1, (h.1 c).2.1, (h.1 c).2.2.1⟩, h.2⟩)
    (run_main (F := Bits) m ρ (ok_bits m hpre))

theorem frame_ideal : Cert.quiescent_KernelIdeal := fun m ρ hpre =>
  (θ_run Cert.KernelIdeal.defs _ _).mono (fun _ h => ⟨fun c => ⟨(h.1 c).1, (h.1 c).2.1, (h.1 c).2.2.1⟩, h.2⟩) (run_main (F := Ideal) m ρ (ok_ideal m hpre))

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_pre : Cert.quiescent_ReferenceIdeal_pre_ids_in_range := fun m ρ _ => frame_reference m ρ trivial

end Cert.Proof.Spikes

end
-- ==== Proof.Sum.lean ====
/-
  The tallies at the extended reals: a row's tallies, multiplied column by column into a vector and summed, are the
  vector's entries at the spike indices summed over the spikes. No entry need be finite: a tally is never negative, so
  multiplication distributes over it.
-/
module

public import proofs.«01_k».proof.Proof.Counts
public import Idealize.ShloMosaic.Lib.IdealHost

@[expose] public section

noncomputable section

namespace Cert.Proof.Spikes

open Idealize.ShloMosaic

theorem nought_ideal : (nought : Ideal .f32) = (0 : EReal) := Ideal.ofBits_zero_f32
theorem one_ideal : (one : Ideal .f32) = (1 : EReal) := Ideal.ofBits_one_f32

/-- One or zero, as the comparison of a position with the spike count says. -/
def live (n : BitVec 32) (j : ℕ) : EReal := if (BitVec.ofNat 32 j).slt n = true then 1 else 0

/-- A tally's step, as a sum. -/
theorem tally_succ (row : Fin 64 → BitVec 32) (n : BitVec 32) (d j : ℕ) :
    (tally (F := Ideal) row n d (j + 1) : EReal)
      = (tally (F := Ideal) row n d j : EReal) + (if (row (Fin.ofNat 64 j)).toNat = d then live n j else 0) := by
  by_cases h : (BitVec.ofNat 32 j).slt n = true
  · by_cases hd : (row (Fin.ofNat 64 j)).toNat = d
    · rw [tally, if_pos ⟨h, hd⟩, if_pos hd, live, if_pos h, ← one_ideal]; rfl
    · rw [tally, if_neg fun hh => hd hh.2, if_neg hd, add_zero]
  · rw [tally, if_neg fun hh => h hh.1, live, if_neg h, ite_self, add_zero]

theorem live_nonneg (n : BitVec 32) (j : ℕ) : 0 ≤ live n j := by
  unfold live; split
  · exact zero_le_one
  · exact le_rfl

theorem tally_nonneg (row : Fin 64 → BitVec 32) (n : BitVec 32) (d j : ℕ) : (0 : EReal) ≤ (tally (F := Ideal) row n d j : EReal) := by
  induction j with
  | zero => exact (nought_ideal).ge
  | succ j ih =>
    rw [tally_succ]
    refine add_nonneg ih ?_
    split
    · exact live_nonneg n j
    · exact le_rfl

/-- The tallies of the first `j` spikes times a vector: the vector's entries at those spikes. -/
theorem tally_dot_upto (row : Fin 64 → BitVec 32) (hrow : ∀ k, (row k).toNat < 1024) (n : BitVec 32) (x : Fin 1024 → EReal) (j : ℕ) :
    ∑ d : Fin 1024, (tally (F := Ideal) row n d.val j : EReal) * x d
      = ∑ k ∈ Finset.range j, x ⟨(row (Fin.ofNat 64 k)).toNat, hrow _⟩ * live n k := by
  induction j with
  | zero =>
    rw [Finset.range_zero, Finset.sum_empty]
    refine Finset.sum_eq_zero fun d _ => ?_
    rw [show (tally (F := Ideal) row n d.val 0 : EReal) = 0 from nought_ideal, zero_mul]
  | succ j ih =>
    rw [Finset.sum_range_succ, ← ih]
    have step : ∀ d : Fin 1024, (tally (F := Ideal) row n d.val (j + 1) : EReal) * x d
        = (tally (F := Ideal) row n d.val j : EReal) * x d + (if (row (Fin.ofNat 64 j)).toNat = d.val then live n j else 0) * x d := by
      intro d
      rw [tally_succ]
      refine EReal.right_distrib_of_nonneg (tally_nonneg row n d.val j) ?_
      split
      · exact live_nonneg n j
      · exact le_rfl
    rw [Finset.sum_congr rfl fun d _ => step d, Finset.sum_add_distrib]
    congr 1
    rw [Finset.sum_eq_single (⟨(row (Fin.ofNat 64 j)).toNat, hrow _⟩ : Fin 1024) (fun d _ hd => ?_) (fun h => absurd (Finset.mem_univ _) h)]
    · rw [if_pos rfl, mul_comm]
    · rw [if_neg fun h => hd (Fin.ext h.symm), zero_mul]

/-- All 64 positions of the row. -/
theorem tally_dot (row : Fin 64 → BitVec 32) (hrow : ∀ k, (row k).toNat < 1024) (n : BitVec 32) (x : Fin 1024 → EReal) :
    ∑ d : Fin 1024, (tally (F := Ideal) row n d.val 64 : EReal) * x d
      = ∑ k : Fin 64, x ⟨(row k).toNat, hrow k⟩ * live n k.val := by
  rw [tally_dot_upto row hrow n x 64, Finset.sum_range]
  refine Finset.sum_congr rfl fun k _ => ?_
  have e : Fin.ofNat 64 k.val = k := Fin.ext (Nat.mod_eq_of_lt k.isLt)
  simp only [e]

end Cert.Proof.Spikes

end
-- ==== Proof.Value.lean ====
/-
  What the kernel's last array holds at the extended reals: entry (b, o) is the sum, over row b's spikes, of row o of the
  weights at the spikes' columns.
-/
module

public import proofs.«01_k».proof.Proof.Main
public import proofs.«01_k».proof.Proof.Sum
public import Idealize.ShloMosaic.Lib.MatmulPlain
public import Idealize.ShloMosaic.Lib.Pipeline.Value

@[expose] public section

noncomputable section

namespace Cert.Proof.Spikes

open Cert.KernelIdeal Cert.KernelIdeal.Gen
open Idealize.ShloMosaic
open Idealize.ShloMosaic.ValueIdx (ix1 ix2)

/-- One block of the product: row `r` of the tallies against row `c` of the weights. -/
theorem block_product (a : FVec Ideal S256x1024 .f32) (b : FVec Ideal S1024x1024 .bf16) (r : Fin 256) (c : Fin 1024) :
    (k1_pay1 (F := Ideal) a b (ix2 r c) : EReal) = ∑ k : Fin 1024, (a (ix2 r k) : EReal) * (b (ix2 c k) : EReal) := by
  unfold k1_pay1
  rw [shapeCast_self, shapeCast_self]
  refine (Ideal.matmul_transposedRhs_apply (M := 256) (K := 1024) (N := 1024) none _ _ _ r c).trans ?_
  rw [show (constant S256x1024 .f32 0x00000000#32 : FVec Ideal S256x1024 .f32) (ix2 r c) = (0 : EReal) from Ideal.ofBits_zero_f32, zero_add]
  rfl

/-- The whole product at an index. -/
theorem product_apply (A : FVec Ideal S1024x1024 .f32) (B : FVec Ideal S1024x1024 .bf16) (r c : Fin 1024) :
    (product (F := Ideal) A B (ix2 r c) : EReal) = ∑ k : Fin 1024, (A (ix2 r k) : EReal) * (B (ix2 c k) : EReal) := by
  refine (block_product _ _ _ _).trans (Finset.sum_congr rfl fun k _ => ?_)
  have e : Fin.ofNat 1024 (256 * (r.val / 256) + (Fin.ofNat 256 r.val).val) = r := by
    refine Fin.ext ?_
    have h : (Fin.ofNat 256 r.val).val = r.val % 256 := rfl
    have hr := r.isLt
    show (256 * (r.val / 256) + (Fin.ofNat 256 r.val).val) % 1024 = r.val
    rw [h]; omega
  show (A (ix2 (Fin.ofNat 1024 (256 * (r.val / 256) + (Fin.ofNat 256 r.val).val)) k) : EReal) * _ = _
  rw [e]

/-- The kernel's result, entry by entry. -/
theorem result_apply (m : (ℓ : Loc nD τ sig) → Buf (Elt Ideal) ℓ) (h : PreOK m) (d : Dev nD) (r c : Fin 1024) :
    (show EReal from result m d (ix2 r c))
      = ∑ k : Fin 64, (show EReal from m (wLoc d) (ix2 c ⟨(m (iLoc d) (ix2 r k) : BitVec 32).toNat, h d _⟩)) * live (m (nLoc d) (ix1 r)) k.val := by
  refine (product_apply _ _ r c).trans ?_
  exact tally_dot (fun k => m (iLoc d) (ix2 r k)) (fun k => h d _) (m (nLoc d) (ix1 r)) (fun k => m (wLoc d) (ix2 c k))

end Cert.Proof.Spikes

end
-- ==== Proof.Reference.lean ====
/-
  What the plain maths computes at the extended reals, for spike indices below 1024: entry (b, o) is the sum, over the 64
  positions of row b, of the weights at (o, that position's index), times one or zero as the position is below the row's
  spike count.
-/
module

public import proofs.«01_k».proof.Proof.Gen.ReferenceIdeal.Run
public import proofs.«01_k».proof.Proof.Sum
public import Idealize.ShloMosaic.Lib.ReduceAll
public import Idealize.ShloMosaic.Lib.Pipeline.Value
public import Idealize.ShloMosaic.Lib.ValueIdx

@[expose] public section

noncomputable section

namespace Cert.Proof.Spikes.Plain

open Cert.ReferenceIdeal Cert.ReferenceIdeal.Gen
open Idealize.ShloMosaic
open Idealize.ShloMosaic.ValueIdx (ix1 ix2)

/-- Position `k` of row `b`, as the look-up's index array has it, and column `o` of the row looked up there. -/
def slot (b : Fin 1024) (k : Fin 64) : S1024x64x1.Idx := fun x => match x with | ⟨0, _⟩ => b | ⟨1, _⟩ => k | ⟨2, _⟩ => (0 : Fin 1)
def cell (b : Fin 1024) (k : Fin 64) (o : Fin 1024) : S1024x64x1024.Idx := fun x => match x with | ⟨0, _⟩ => b | ⟨1, _⟩ => k | ⟨2, _⟩ => o

/-- Three elementwise operations at an index. -/
theorem select_at {s : Shape} {α : Type} (c : IVec s 1) (x y : s.Idx → α) (j : s.Idx) : select c x y j = Scalar.select (c j) (x j) (y j) := rfl
theorem cmpi_at {s : Shape} {n : ℕ} (p : CmpIPredicate) (x y : IVec s n) (j : s.Idx) : cmpi p x y j = IntOp.cmpi p (x j) (y j) := rfl
theorem uitofp_at {s : Shape} (x : IVec s 1) (j : s.Idx) : (uitofp (F := Ideal) .f32 x j : EReal) = ((x j).toNat : ℝ) := rfl

/-! ## The indices -/

/-- The indices as the table look-up takes them: a negative one counts from the end. -/
def picked (ids : IVec S1024x64 32) : IVec S1024x64x1 32 :=
  broadcastInDim S1024x64x1 ![0, 1] bcast_S1024x64_S1024x64x1_0_1
    (select (cmpi .slt ids (broadcastInDim S1024x64 ![] bcast_S_S1024x64 (constantI S_ 32 0#32)))
      (addi ids (broadcastInDim S1024x64 ![] bcast_S_S1024x64 (constantI S_ 32 1024#32))) ids)

/-- A word below 1024 is not negative, and is at most 1023. -/
theorem word_facts (v : BitVec 32) (h : v.toNat < 1024) :
    IntOp.cmpi .slt v 0#32 = 0#1 ∧ IntOp.cmpi .sge v 0#32 = 1#1 ∧ IntOp.cmpi .sle v 1023#32 = 1#1 ∧ v.toInt = v.toNat := by
  have hv : v.toInt = v.toNat := by
    rw [BitVec.toInt_eq_toNat_cond, if_pos (by omega)]
  have h0 : (0#32).toInt = 0 := by decide
  have h1 : (1023#32).toInt = 1023 := by decide
  refine ⟨?_, ?_, ?_, hv⟩
  · show BitVec.ofBool (v.slt 0#32) = 0#1
    rw [BitVec.slt_eq_decide, h0, hv, decide_eq_false (by omega)]; rfl
  · show BitVec.ofBool ((0#32).sle v) = 1#1
    rw [BitVec.sle_eq_decide, h0, hv, decide_eq_true (by omega)]; rfl
  · show BitVec.ofBool (v.sle 1023#32) = 1#1
    rw [BitVec.sle_eq_decide, h1, hv, decide_eq_true (by omega)]; rfl

/-- An index that is in range is taken as it is. -/
theorem picked_apply (ids : IVec S1024x64 32) (h : ∀ j, (ids j).toNat < 1024) (j : S1024x64x1.Idx) :
    picked ids j = ids (ix2 (j 0) (j 1)) := by
  unfold picked
  refine (broadcastInDim_apply _ _ _ j (ix2 (j 0) (j 1)) (fun a => ?_)).trans ?_
  · match a with
    | ⟨0, _⟩ => rfl
    | ⟨1, _⟩ => rfl
  · show Scalar.select (IntOp.cmpi .slt (ids (ix2 (j 0) (j 1))) 0#32) _ _ = _
    rw [(word_facts _ (h _)).1]; rfl

/-- Whether each index lies in the table. -/
def inside (ids : IVec S1024x64 32) : IVec S1024x64x1 1 :=
  andi (cmpi .sge (picked ids) (broadcastInDim S1024x64x1 ![] bcast_S_S1024x64x1 (constantI S_ 32 0#32)))
    (cmpi .sle (picked ids) (broadcastInDim S1024x64x1 ![0, 1, 2] bcast_S1x1x1_S1024x64x1_0_1_2
      (broadcastInDim S1x1x1 ![2] bcast_S1_S1x1x1_2 (constantI S1 32 1023#32))))

theorem inside_apply (ids : IVec S1024x64 32) (h : ∀ j, (ids j).toNat < 1024) (j : S1024x64x1.Idx) : inside ids j = 1#1 := by
  show IntOp.andi (IntOp.cmpi .sge (picked ids j) 0#32) (IntOp.cmpi .sle (picked ids j) 1023#32) = 1#1
  rw [picked_apply ids h, (word_facts _ (h _)).2.1, (word_facts _ (h _)).2.2.1]; rfl

/-! ## The table's rows -/

/-- The look-up at (b, k, o): the table at the row that position (b, k) names, column o. -/
theorem lookup_apply {α : Type} (x : S1024x1024.Idx → α) (idx : IVec S1024x64x1 32) (b : Fin 1024) (k : Fin 64) (o r : Fin 1024)
    (hr : (idx (slot b k)).toInt = r.val) :
    Host.gather gather_S1024x1024_S1024x64x1_S1024x64x1024_2_0_n_n_0_2_11024 x idx (cell b k o) = x (ix2 r o) := by
  unfold Host.gather
  refine congrArg x (funext fun a => Fin.ext ?_)
  show gather_S1024x1024_S1024x64x1_S1024x64x1024_2_0_n_n_0_2_11024.start (cell b k o) idx a
    + gather_S1024x1024_S1024x64x1_S1024x64x1024_2_0_n_n_0_2_11024.batchCoord (cell b k o) a
    + gather_S1024x1024_S1024x64x1_S1024x64x1024_2_0_n_n_0_2_11024.offCoord (cell b k o) a = _
  rw [GatherDims.batchCoord_eq_zero _ _ _ List.not_mem_nil, Nat.add_zero]
  have h01 : a = (0 : Fin 2) ∨ a = (1 : Fin 2) := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ gather_S1024x1024_S1024x64x1_S1024x64x1024_2_0_n_n_0_2_11024.startIndexMap from List.mem_singleton.mpr rfl)]
    have hsi : gather_S1024x1024_S1024x64x1_S1024x64x1024_2_0_n_n_0_2_11024.siIdx (cell b k o)
        ⟨List.idxOf (0 : Fin 2) gather_S1024x1024_S1024x64x1_S1024x64x1024_2_0_n_n_0_2_11024.startIndexMap,
          List.idxOf_lt_length_iff.2 (List.mem_singleton.mpr rfl)⟩ = slot b k := by
      funext a; refine Fin.ext ?_
      match a with
      | ⟨0, _⟩ => rfl
      | ⟨1, _⟩ => rfl
      | ⟨2, _⟩ => rfl
    rw [hsi]
    show min (idx (slot b k)).toInt.toNat 1023 = r.val
    have := r.isLt
    rw [hr, Int.toNat_natCast]; omega
  · unfold GatherDims.start
    rw [dif_neg (show (1 : Fin 2) ∉ gather_S1024x1024_S1024x64x1_S1024x64x1024_2_0_n_n_0_2_11024.startIndexMap by decide), Nat.zero_add]
    rfl

/-- The rows the plain maths looks up. -/
def looked (w : FVec Ideal S1024x1024 .f32) (ids : IVec S1024x64 32) : FVec Ideal S1024x64x1024 .f32 :=
  select (broadcastInDim S1024x64x1024 ![0, 1] bcast_S1024x64_S1024x64x1024_0_1
      (Host.reduce IntOp.andi (inside ids) (constantI S_ 1 1#1) reducesTo_S1024x64x1_S1024x64_d2 h_S_))
    (Host.gather gather_S1024x1024_S1024x64x1_S1024x64x1024_2_0_n_n_0_2_11024
      (transpose S1024x1024 [1, 0] w transposes_S1024x1024_S1024x1024_1_0) (picked ids))
    (broadcastInDim S1024x64x1024 ![] bcast_S_S1024x64x1024 (constant S_ .f32 0x7FC00000#32))

theorem looked_apply (w : FVec Ideal S1024x1024 .f32) (ids : IVec S1024x64 32) (h : ∀ j, (ids j).toNat < 1024) (b : Fin 1024) (k : Fin 64) (o : Fin 1024) :
    looked w ids (cell b k o) = w (ix2 o ⟨(ids (ix2 b k)).toNat, h _⟩) := by
  unfold looked
  rw [select_at, broadcastInDim_apply _ _ _ (cell b k o) (ix2 b k) (fun a => match a with | ⟨0, _⟩ => rfl | ⟨1, _⟩ => rfl),
    Host.reduce_andi_one _ _ _ _ _ rfl (inside_apply ids h), Scalar.select, if_pos (show (1#1 : BitVec 1) = 1 from rfl)]
  refine (lookup_apply _ _ b k o ⟨(ids (ix2 b k)).toNat, h _⟩ ?_).trans ?_
  · rw [picked_apply ids h]; exact (word_facts _ (h _)).2.2.2
  · unfold transpose
    refine congrArg w (funext fun a => Fin.ext ?_)
    match a with
    | ⟨0, _⟩ => rfl
    | ⟨1, _⟩ => rfl

/-! ## The mask -/

/-- A position's number, and its row's spike count. -/
def place : IVec S1024x64 32 :=
  broadcastInDim S1024x64 ![0, 1] bcast_S1x64_S1024x64_0_1 (broadcastInDim S1x64 ![1] bcast_S64_S1x64_1 (iotaInDim S64 32 0))
def limit (ns : IVec S1024 32) : IVec S1024x64 32 :=
  broadcastInDim S1024x64 ![0, 1] bcast_S1024x1_S1024x64_0_1 (broadcastInDim S1024x1 ![0] bcast_S1024_S1024x1_0 ns)

theorem place_apply (b : Fin 1024) (k : Fin 64) : place (ix2 b k) = BitVec.ofNat 32 k.val := by
  unfold place
  rw [broadcastInDim_apply _ _ _ (ix2 b k) (ix2 (0 : Fin 1) k) (fun a => match a with | ⟨0, _⟩ => rfl | ⟨1, _⟩ => rfl),
    broadcastInDim_apply _ _ _ (ix2 (0 : Fin 1) k) (ix1 k) (fun a => match a with | ⟨0, _⟩ => rfl)]
  rfl

theorem limit_apply (ns : IVec S1024 32) (b : Fin 1024) (k : Fin 64) : limit ns (ix2 b k) = ns (ix1 b) := by
  unfold limit
  rw [broadcastInDim_apply _ _ _ (ix2 b k) (ix2 b (0 : Fin 1)) (fun a => match a with | ⟨0, _⟩ => rfl | ⟨1, _⟩ => rfl),
    broadcastInDim_apply _ _ _ (ix2 b (0 : Fin 1)) (ix1 b) (fun a => match a with | ⟨0, _⟩ => rfl)]

/-- One where a position is below its row's spike count, zero elsewhere, along the columns too. -/
def mask (ns : IVec S1024 32) : FVec Ideal S1024x64x1024 .f32 :=
  broadcastInDim S1024x64x1024 ![0, 1, 2] bcast_S1024x64x1_S1024x64x1024_0_1_2
    (broadcastInDim S1024x64x1 ![0, 1] bcast_S1024x64_S1024x64x1_0_1 (uitofp .f32 (cmpi .slt place (limit ns))))

theorem mask_apply (ns : IVec S1024 32) (b : Fin 1024) (k : Fin 64) (o : Fin 1024) :
    (mask ns (cell b k o) : EReal) = live (ns (ix1 b)) k.val := by
  unfold mask
  rw [broadcastInDim_apply _ _ _ (cell b k o) (slot b k) (fun a => match a with | ⟨0, _⟩ => rfl | ⟨1, _⟩ => rfl | ⟨2, _⟩ => rfl),
    broadcastInDim_apply _ _ _ (slot b k) (ix2 b k) (fun a => match a with | ⟨0, _⟩ => rfl | ⟨1, _⟩ => rfl),
    uitofp_at, cmpi_at, place_apply, limit_apply]
  show (((BitVec.ofBool ((BitVec.ofNat 32 k.val).slt (ns (ix1 b)))).toNat : ℝ) : EReal) = _
  unfold live
  cases (BitVec.ofNat 32 k.val).slt (ns (ix1 b)) <;> simp

/-! ## The sum -/

/-- The plain maths, entry by entry. -/
theorem plain_apply (w : FVec Ideal S1024x1024 .f32) (ids : IVec S1024x64 32) (ns : IVec S1024 32) (h : ∀ j, (ids j).toNat < 1024) (b o : Fin 1024) :
    (Host.reduceAdd (mulf (looked w ids) (mask ns)) (constant S_ .f32 0x00000000#32) reducesTo_S1024x64x1024_S1024x1024_d1 h_S_ (ix2 b o) : EReal)
      = ∑ k : Fin 64, (w (ix2 o ⟨(ids (ix2 b k)).toNat, h _⟩) : EReal) * live (ns (ix1 b)) k.val := by
  rw [ValueIdx.hostReduceAdd_apply, Ideal.hostReduceAdd_single _ (show S1024x64x1024.Reduces [1] S1024x1024 by decide),
    show (constant S_ .f32 0x00000000#32 : FVec Ideal S_ .f32) (Shape.Idx.first h_S_) = (0 : EReal) from Ideal.ofBits_zero_f32, zero_add]
  refine Finset.sum_congr rfl fun (k : Fin 64) _ => ?_
  have e : (show S1024x64x1024.Reduces [1] S1024x1024 by decide).lift (ix2 b o) k = cell b k o := by
    funext a; refine Fin.ext ?_
    match a with
    | ⟨0, _⟩ => rfl
    | ⟨1, _⟩ => rfl
    | ⟨2, _⟩ => rfl
  rw [e]
  show (looked w ids (cell b k o) : EReal) * (mask ns (cell b k o) : EReal) = _
  rw [looked_apply w ids h, mask_apply]

end Cert.Proof.Spikes.Plain

end
-- ==== Proof.Agree.lean ====
/-
  The value claim: from the same arguments the kernel and the plain maths end with the same array.
-/
module

public import proofs.«01_k».proof.Proof.Frames
public import proofs.«01_k».proof.Proof.Value
public import proofs.«01_k».proof.Proof.Reference

@[expose] public section

noncomputable section

namespace Cert.Proof.Spikes

open Idealize.ShloMosaic Idealize.SL.Sem
open Idealize.ShloMosaic.ValueIdx (ix1 ix2)

/-- The plain maths' whole result is the kernel's. -/
theorem plain_eq_result (m : (ℓ : Loc Cert.KernelIdeal.nD Cert.KernelIdeal.τ Cert.KernelIdeal.sig) → Buf (Elt Ideal) ℓ) (h : PreOK m)
    (d : Dev Cert.KernelIdeal.nD) :
    Host.reduceAdd (mulf (Plain.looked (m (wLoc d)) (m (iLoc d))) (Plain.mask (m (nLoc d)))) (constant Cert.ReferenceIdeal.S_ .f32 0x00000000#32)
        Cert.ReferenceIdeal.Gen.reducesTo_S1024x64x1024_S1024x1024_d1 Cert.ReferenceIdeal.Gen.h_S_ = result m d := by
  funext j
  obtain ⟨b, o, rfl⟩ : ∃ b o : Fin 1024, j = ix2 b o := ⟨j 0, j 1, ValueIdx.eq_ix2 j⟩
  exact (Plain.plain_apply _ _ _ (h d) b o).trans (result_apply m h d b o).symm

theorem agree : Cert.algebraic_KernelIdeal_ReferenceIdeal := by
  intro m g m' g' hpre hin
  have hok := ok_ideal m hpre
  refine ⟨fun c => result m c, ?_, ?_⟩
  · exact (θ_run Cert.KernelIdeal.defs _ _).mono
      (fun _ h => fun c => ⟨(h.1 c).2.2.2, (h.1 c).1, (h.1 c).2.1, (h.1 c).2.2.1⟩) (run_main (F := Ideal) m g hok)
  · refine (θ_run Cert.ReferenceIdeal.defs _ _).mono (fun r h => fun c => ⟨?_, (h c).2⟩) (Cert.ReferenceIdeal.Value.run (F := Ideal) m' g')
    rw [(h c).1, (hin c).1, (hin c).2.1, (hin c).2.2]
    exact plain_eq_result m hok c

end Cert.Proof.Spikes

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_ids_in_range
public import proofs.«01_k».proof.Proof.Gen.ReferenceIdeal.Run
public import proofs.«01_k».proof.Proof.Agree
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_ids_in_range.Gen.facts,
  Spikes.frame_kernel, Spikes.frame_ideal, Spikes.frame_reference, Spikes.frame_reference_pre, trivial, Spikes.agree⟩

end Cert.Proof

end
